-- ==== Defs.lean ====
def Pre_Kernel [hPre_ids_in_range : Cert.Pre_ids_in_range.Facts] (m : (ℓ : Loc Cert.Kernel.nD Cert.Kernel.τ Cert.Kernel.sig) → Buf (Elt Bits) ℓ) : Prop :=
  ∀ c : Dev Cert.Kernel.nD,
    (Cert.Pre_ids_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_ids_in_range : Cert.Pre_ids_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_ids_sorted_in_range [hPre_ids_sorted_in_range : Cert.Pre_ids_sorted_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted_in_range [hPre_ids_sorted_in_range : Cert.Pre_ids_sorted_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_ids_in_range : Cert.Pre_ids_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_ids_in_range : Cert.Pre_ids_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_ids_sorted_in_range [hKernelIdeal : Cert.KernelIdeal.Facts] [hPre_ids_sorted_in_range : Cert.Pre_ids_sorted_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_ids_sorted_in_range [hReferenceIdeal : Cert.ReferenceIdeal.Facts] [hPre_ids_sorted_in_range : Cert.Pre_ids_sorted_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_ids_sorted_in_range [hKernelIdeal : Cert.KernelIdeal.Facts] [hReferenceIdeal : Cert.ReferenceIdeal.Facts] [hPre_ids_sorted_in_range : Cert.Pre_ids_sorted_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_ids_in_range : Cert.Pre_ids_in_range.Facts) (hPre_ids_sorted_in_range : Cert.Pre_ids_sorted_in_range.Facts),
    quiescent_Kernel (hKernel := hKernel) (hPre_ids_in_range := hPre_ids_in_range)
    ∧ quiescent_KernelIdeal (hKernelIdeal := hKernelIdeal) (hPre_ids_in_range := hPre_ids_in_range)
    ∧ quiescent_KernelIdeal_pre_ids_sorted_in_range (hKernelIdeal := hKernelIdeal) (hPre_ids_sorted_in_range := hPre_ids_sorted_in_range)
    ∧ quiescent_ReferenceIdeal (hReferenceIdeal := hReferenceIdeal)
    ∧ quiescent_ReferenceIdeal_pre_ids_sorted_in_range (hReferenceIdeal := hReferenceIdeal) (hPre_ids_sorted_in_range := hPre_ids_sorted_in_range)
    ∧ preserves_Kernel_KernelIdeal
    ∧ algebraic_KernelIdeal_ReferenceIdeal_pre_ids_sorted_in_range (hKernelIdeal := hKernelIdeal) (hReferenceIdeal := hReferenceIdeal) (hPre_ids_sorted_in_range := hPre_ids_sorted_in_range)
-- ==== Pre_ids_in_range.lean ====
abbrev S100000x128x1 : Shape := ⟨3, ![100000, 128, 1]⟩
abbrev S100000 : Shape := ⟨1, ![100000]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x128x1 .f32) (main_arg1 : IVec S100000 32) : IVec S100000 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 64#32
  let main_v2 : IVec S100000 32 := broadcastInDim S100000 ![] bcast_S_S100000 main_c_0
  let main_v3 : IVec S100000 1 := cmpi .slt main_arg1 main_v2
  let main_v4 : IVec S100000 1 := andi main_v1 main_v3
  main_v4
-- ==== Pre_ids_sorted_in_range.lean ====
abbrev S100000x128x1 : Shape := ⟨3, ![100000, 128, 1]⟩
abbrev S100000 : Shape := ⟨1, ![100000]⟩
abbrev S_ : Shape := ⟨0, ![]⟩
abbrev S99999 : Shape := ⟨1, ![99999]⟩

class Facts : Prop where
  bcast_S_S100000 : S_.BroadcastsInDim S100000 (![] : Fin 0 → Fin S100000.rank)
  reducesTo_S100000_S_d0 : S100000.ReducesTo [0] S_
  h_S_ : 0 < S_.numel
  slices_S100000_S99999_1 : S100000.Slices ![1] S99999
  slices_S100000_S99999_0 : S100000.Slices ![0] S99999
  reducesTo_S99999_S_d0 : S99999.ReducesTo [0] S_

variable [Facts]

def fn {F : FTy → Type} [FloatOps F] (main_arg0 : FVec F S100000x128x1 .f32) (main_arg1 : IVec S100000 32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 64#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_v6 : IVec S99999 32 := (extractStridedSlice S99999 ![1] · slices_S100000_S99999_1) main_arg1
  let main_v7 : IVec S99999 32 := (extractStridedSlice S99999 ![0] · slices_S100000_S99999_0) main_arg1
  let main_v8 : IVec S99999 1 := cmpi .sge main_v6 main_v7
  let main_c_2 : IVec S_ 1 := constantI S_ 1 1#1
  let main_v9 : IVec S_ 1 := (fun x v => Host.reduce IntOp.andi x v reducesTo_S99999_S_d0 h_S_) main_v8 main_c_2
  let main_v10 : IVec S_ 1 := andi main_v5 main_v9
  main_v10
-- ==== Kernel.lean ====
abbrev S100000x128x1 : Shape := ⟨3, ![100000, 128, 1]⟩
abbrev S100000 : Shape := ⟨1, ![100000]⟩
abbrev S100000x128 : Shape := ⟨2, ![100000, 128]⟩
abbrev S12800000 : Shape := ⟨1, ![12800000]⟩
abbrev S50x1x2000 : Shape := ⟨3, ![50, 1, 2000]⟩
abbrev S262144 : Shape := ⟨1, ![262144]⟩
abbrev S2048 : Shape := ⟨1, ![2048]⟩
abbrev S2x16000 : Shape := ⟨2, ![2, 16000]⟩
abbrev S1528 : Shape := ⟨1, ![1528]⟩
abbrev S8192 : Shape := ⟨1, ![8192]⟩
abbrev S64 : Shape := ⟨1, ![64]⟩
abbrev S_ : Shape := ⟨0, ![]⟩
abbrev S16 : Shape := ⟨1, ![16]⟩
abbrev S1x16000 : Shape := ⟨2, ![1, 16000]⟩
abbrev S16000 : Shape := ⟨1, ![16000]⟩
abbrev S1 : Shape := ⟨1, ![1]⟩
abbrev S64x128 : Shape := ⟨2, ![64, 128]⟩
abbrev S1x1x2000 : Shape := ⟨3, ![1, 1, 2000]⟩
abbrev S2000x128 : Shape := ⟨2, ![2000, 128]⟩
abbrev S2000 : Shape := ⟨1, ![2000]⟩
abbrev S64x2000 : Shape := ⟨2, ![64, 2000]⟩
abbrev S1x2000 : Shape := ⟨2, ![1, 2000]⟩
abbrev S32x64x128 : Shape := ⟨3, ![32, 64, 128]⟩
abbrev S32x64 : Shape := ⟨2, ![32, 64]⟩
abbrev S64x1 : Shape := ⟨2, ![64, 1]⟩

abbrev nBuf : Table → Nat
  | .hbm => 12
  | .local .tc .vmem => 11
  | .local .scVector .vmem => 4
  | _ => 0

abbrev bufTy : (tb : Table) → Fin (nBuf tb) → BufTy
  | .hbm, ⟨0, _⟩ => ⟨S100000x128x1, .f32⟩
  | .hbm, ⟨1, _⟩ => ⟨S100000, .i32⟩
  | .hbm, ⟨2, _⟩ => ⟨S100000x128, .f32⟩
  | .hbm, ⟨3, _⟩ => ⟨S12800000, .f32⟩
  | .hbm, ⟨4, _⟩ => ⟨S50x1x2000, .i32⟩
  | .hbm, ⟨5, _⟩ => ⟨S262144, .f32⟩
  | .hbm, ⟨6, _⟩ => ⟨S2048, .f32⟩
  | .hbm, ⟨7, _⟩ => ⟨S64x128, .f32⟩
  | .hbm, ⟨8, _⟩ => ⟨S64, .f32⟩
  | .hbm, ⟨9, _⟩ => ⟨S32x64x128, .f32⟩
  | .hbm, ⟨10, _⟩ => ⟨S32x64, .f32⟩
  | .hbm, ⟨11, _⟩ => ⟨S64x128, .f32⟩
  | .local .tc .vmem, ⟨0, _⟩ => ⟨S1x1x2000, .i32⟩
  | .local .tc .vmem, ⟨1, _⟩ => ⟨S1x1x2000, .i32⟩
  | .local .tc .vmem, ⟨2, _⟩ => ⟨S2000x128, .f32⟩
  | .local .tc .vmem, ⟨3, _⟩ => ⟨S2000x128, .f32⟩
  | .local .tc .vmem, ⟨4, _⟩ => ⟨S64x128, .f32⟩
  | .local .tc .vmem, ⟨5, _⟩ => ⟨S64, .f32⟩
  | .local .tc .vmem, ⟨6, _⟩ => ⟨S32x64x128, .f32⟩
  | .local .tc .vmem, ⟨7, _⟩ => ⟨S32x64, .f32⟩
  | .local .tc .vmem, ⟨8, _⟩ => ⟨S64x128, .f32⟩
  | .local .tc .vmem, ⟨9, _⟩ => ⟨S64, .f32⟩
  | .local .tc .vmem, ⟨10, _⟩ => ⟨S64x128, .f32⟩
  | .local .scVector .vmem, ⟨0, _⟩ => ⟨S2x16000, .f32⟩
  | .local .scVector .vmem, ⟨1, _⟩ => ⟨S1528, .i32⟩
  | .local .scVector .vmem, ⟨2, _⟩ => ⟨S8192, .f32⟩
  | .local .scVector .vmem, ⟨3, _⟩ => ⟨S64, .f32⟩
  | _, _ => ⟨S100000x128x1, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v1_scv : Ref sig .scVector := ⟨.hbm, 3, rfl⟩
abbrev main_arg1_scv : Ref sig .scVector := ⟨.hbm, 1, rfl⟩
abbrev main_v3_0_scv : Ref sig .scVector := ⟨.hbm, 5, rfl⟩
abbrev main_v3_1_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc2_stg0_0 : Ref sig .tc := ⟨.vmem, 6, rfl⟩
abbrev cc2_stg1_0 : Ref sig .tc := ⟨.vmem, 7, rfl⟩
abbrev cc2_stg2_0 : Ref sig .tc := ⟨.vmem, 8, rfl⟩
abbrev cc2_stg3_0 : Ref sig .tc := ⟨.vmem, 9, rfl⟩
abbrev cc2_stg4_0 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1500_i32 : BitVec 32 := 1500#32
  let v2 : BitVec 32 := Scalar.muli v1 c1500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  ![v20.toNat]
def k0_off2 (i : grid0.Coords) (c0_i32_5 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1500_i32 : BitVec 32 := 1500#32
  let v2 : BitVec 32 := Scalar.muli v1 c1500_i32
  let v26 : BitVec 32 := Scalar.addi v2 c0_i32_5
  let c128_i32 : BitVec 32 := 128#32
  let v27 : BitVec 32 := Scalar.muli v26 c128_i32
  ![v27.toNat]
@[reducible] def k0_t1_loop : Scf.Loop 32 :=
  let c0_i32_14 : BitVec 32 := 0#32
  let c512_i32 : BitVec 32 := 512#32
  let v42 : BitVec 32 := Scalar.addi c0_i32_14 c512_i32
  let c1_i32_15 : BitVec 32 := 1#32
  ⟨c0_i32_14, v42, c1_i32_15⟩
def k0_off3 (k0_t1 : Fin k0_t1_loop.trips) : Fin 1 → Nat :=
  let c0_i32_14 : BitVec 32 := 0#32
  let c1_i32_15 : BitVec 32 := 1#32
  let arg13 : BitVec 32 := Scf.iv c0_i32_14 c1_i32_15 k0_t1
  let c16_i32 : BitVec 32 := 16#32
  let v63 : BitVec 32 := Scalar.muli arg13 c16_i32
  let v64 : Index := Scalar.indexCast v63
  ![v64.toNat]
@[reducible] def k0_t2_loop : Scf.Loop 32 :=
  let c0_i32_18 : BitVec 32 := 0#32
  let c6_i32 : BitVec 32 := 6#32
  let v58 : BitVec 32 := Scalar.addi c0_i32_18 c6_i32
  let c1_i32_19 : BitVec 32 := 1#32
  ⟨c0_i32_18, v58, c1_i32_19⟩
def k0_off4 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1500_i32 : BitVec 32 := 1500#32
  let v2 : BitVec 32 := Scalar.muli v1 c1500_i32
  let c0_i32_18 : BitVec 32 := 0#32
  let c1_i32_19 : BitVec 32 := 1#32
  let arg13 : BitVec 32 := Scf.iv c0_i32_18 c1_i32_19 k0_t2
  let c2_i32_23 : BitVec 32 := 2#32
  let v63 : BitVec 32 := Scalar.muli arg13 c2_i32_23
  let c0_i32_24 : BitVec 32 := 0#32
  let v64 : BitVec 32 := Scalar.addi v63 c0_i32_24
  let c125_i32_25 : BitVec 32 := 125#32
  let v65 : BitVec 32 := Scalar.muli v64 c125_i32_25
  let v66 : BitVec 32 := Scalar.addi v2 v65
  let c128_i32_26 : BitVec 32 := 128#32
  let v67 : BitVec 32 := Scalar.muli v66 c128_i32_26
  ![v67.toNat]
def k0_off5 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1500_i32 : BitVec 32 := 1500#32
  let v2 : BitVec 32 := Scalar.muli v1 c1500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let v21 : BitVec 32 := Scalar.subi v2 v20
  let c0_i32_18 : BitVec 32 := 0#32
  let c1_i32_19 : BitVec 32 := 1#32
  let arg13 : BitVec 32 := Scf.iv c0_i32_18 c1_i32_19 k0_t2
  let c2_i32_23 : BitVec 32 := 2#32
  let v63 : BitVec 32 := Scalar.muli arg13 c2_i32_23
  let c0_i32_24 : BitVec 32 := 0#32
  let v64 : BitVec 32 := Scalar.addi v63 c0_i32_24
  let c125_i32_30 : BitVec 32 := 125#32
  let v74 : BitVec 32 := Scalar.muli v64 c125_i32_30
  let v75 : BitVec 32 := Scalar.addi v21 v74
  let v76 : Index := Scalar.indexCast v75
  ![v76.toNat]
def k0_off6 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1500_i32 : BitVec 32 := 1500#32
  let v2 : BitVec 32 := Scalar.muli v1 c1500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let v21 : BitVec 32 := Scalar.subi v2 v20
  let c0_i32_18 : BitVec 32 := 0#32
  let c1_i32_19 : BitVec 32 := 1#32
  let arg13 : BitVec 32 := Scf.iv c0_i32_18 c1_i32_19 k0_t2
  let c2_i32_23 : BitVec 32 := 2#32
  let v63 : BitVec 32 := Scalar.muli arg13 c2_i32_23
  let c0_i32_24 : BitVec 32 := 0#32
  let v64 : BitVec 32 := Scalar.addi v63 c0_i32_24
  let c125_i32_30 : BitVec 32 := 125#32
  let v74 : BitVec 32 := Scalar.muli v64 c125_i32_30
  let v75 : BitVec 32 := Scalar.addi v21 v74
  let c125_i32_31 : BitVec 32 := 125#32
  let v81 : BitVec 32 := Scalar.addi v75 c125_i32_31
  let c16_i32 : BitVec 32 := 16#32
  let v82 : BitVec 32 := Scalar.subi v81 c16_i32
  let v83 : Index := Scalar.indexCast v82
  ![v83.toNat]
@[reducible] def k0_t3_loop : Scf.Loop 32 :=
  let c0_i32_56 : BitVec 32 := 0#32
  let c125_i32_57 : BitVec 32 := 125#32
  let v133 : BitVec 32 := Scalar.addi c0_i32_56 c125_i32_57
  let c1_i32_58 : BitVec 32 := 1#32
  ⟨c0_i32_56, v133, c1_i32_58⟩
def k0_off7 (k0_t3 : Fin k0_t3_loop.trips) (c0_i32_75 : BitVec 32) : Fin 1 → Nat :=
  let c0_i32_56 : BitVec 32 := 0#32
  let c1_i32_58 : BitVec 32 := 1#32
  let arg15 : BitVec 32 := Scf.iv c0_i32_56 c1_i32_58 k0_t3
  let c128_i32_74 : BitVec 32 := 128#32
  let v241 : BitVec 32 := Scalar.muli arg15 c128_i32_74
  let v242 : BitVec 32 := Scalar.addi v241 c0_i32_75
  let v245 : Index := Scalar.indexCast v242
  ![v245.toNat]
def k0_off8 (v80 : BitVec 32) (c0_i32_61 : BitVec 32) : Fin 1 → Nat :=
  let c128_i32_60 : BitVec 32 := 128#32
  let v135 : BitVec 32 := Scalar.muli v80 c128_i32_60
  let v136 : BitVec 32 := Scalar.addi v135 c0_i32_61
  let v137 : Index := Scalar.indexCast v136
  ![v137.toNat]
def k0_cond1 (v80 : BitVec 32) (v87 : BitVec 32) : BitVec 1 :=
  let v88 : BitVec 1 := Scalar.cmpi .eq v80 v87
  let v89 : BitVec 32 := Scalar.extui v88
  let c0_i32_33 : BitVec 32 := 0#32
  let v90 : BitVec 1 := Scalar.cmpi .ne v89 c0_i32_33
  v90

def k0_off9 (v80 : BitVec 32) : Fin 1 → Nat :=
  let c0_i32_65 : BitVec 32 := 0#32
  let v209 : BitVec 1 := Scalar.cmpi .sgt v80 c0_i32_65
  let v210 : BitVec 32 := Scalar.extui v209
  let c0_i32_66 : BitVec 32 := 0#32
  let v211 : BitVec 1 := Scalar.cmpi .slt v80 c0_i32_66
  let v212 : BitVec 32 := Scalar.extui v211
  let v213 : BitVec 32 := Scalar.subi v210 v212
  let c16_i32_64 : BitVec 32 := 16#32
  let c0_i32_67 : BitVec 32 := 0#32
  let v214 : BitVec 1 := Scalar.cmpi .sgt c16_i32_64 c0_i32_67
  let v215 : BitVec 32 := Scalar.extui v214
  let c0_i32_68 : BitVec 32 := 0#32
  let v216 : BitVec 1 := Scalar.cmpi .slt c16_i32_64 c0_i32_68
  let v217 : BitVec 32 := Scalar.extui v216
  let v218 : BitVec 32 := Scalar.subi v215 v217
  let v219 : BitVec 1 := Scalar.cmpi .ne v213 v218
  let v220 : BitVec 32 := Scalar.remsi v80 c16_i32_64
  let c0_i32_69 : BitVec 32 := 0#32
  let v221 : BitVec 1 := Scalar.cmpi .ne v220 c0_i32_69
  let v222 : BitVec 1 := Scalar.andi v219 v221
  let v208 : BitVec 32 := Scalar.divsi v80 c16_i32_64
  let c1_i32_70 : BitVec 32 := 1#32
  let v223 : BitVec 32 := Scalar.subi v208 c1_i32_70
  let v224 : BitVec 32 := Scalar.select v222 v223 v208
  let c16_i32_71 : BitVec 32 := 16#32
  let v225 : BitVec 32 := Scalar.muli v224 c16_i32_71
  let v226 : Index := Scalar.indexCast v225
  ![v226.toNat]

def k0_chk1 (v80 : BitVec 32) (v87 : BitVec 32) : Prop :=
  (∀ (k0_h1 : k0_cond1 v80 v87 = 1#1), ∀ (r : Fin 8), ∀ a, (k0_off8 v80 (BitVec.ofNat 32 (16 * r.val))) a + S16.size a ≤ S8192.size a) ∧
  (∀ (k0_h1 : k0_cond1 v80 v87 = 1#1), ∀ a, (k0_off9 v80) a + S16.size a ≤ S64.size a)
theorem k0_off8_inb : ∀ (v80 : BitVec 32) (v87 : BitVec 32) (k0_hw1 : k0_chk1 v80 v87), ∀ (k0_h1 : k0_cond1 v80 v87 = 1#1), ∀ (r : Fin 8), ∀ a, (k0_off8 v80 (BitVec.ofNat 32 (16 * r.val))) a + S16.size a ≤ S8192.size a := fun v80 v87 k0_hw1 k0_h1 r => k0_hw1.1 k0_h1 r
theorem k0_off9_inb : ∀ (v80 : BitVec 32) (v87 : BitVec 32) (k0_hw1 : k0_chk1 v80 v87), ∀ (k0_h1 : k0_cond1 v80 v87 = 1#1), ∀ a, (k0_off9 v80) a + S16.size a ≤ S64.size a := fun v80 v87 k0_hw1 k0_h1 => k0_hw1.2 k0_h1

@[reducible] def k0_t4_loop : Scf.Loop 32 :=
  let c0_i32_57 : BitVec 32 := 0#32
  let c125_i32_58 : BitVec 32 := 125#32
  let v133 : BitVec 32 := Scalar.addi c0_i32_57 c125_i32_58
  let c1_i32_59 : BitVec 32 := 1#32
  ⟨c0_i32_57, v133, c1_i32_59⟩
def k0_off10 (i : grid0.Coords) (k0_t2 : Fin k0_t2_loop.trips) (k0_t4 : Fin k0_t4_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1500_i32 : BitVec 32 := 1500#32
  let v2 : BitVec 32 := Scalar.muli v1 c1500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let v21 : BitVec 32 := Scalar.subi v2 v20
  let c0_i32_18 : BitVec 32 := 0#32
  let c1_i32_19 : BitVec 32 := 1#32
  let arg13 : BitVec 32 := Scf.iv c0_i32_18 c1_i32_19 k0_t2
  let c2_i32_23 : BitVec 32 := 2#32
  let v63 : BitVec 32 := Scalar.muli arg13 c2_i32_23
  let c0_i32_24 : BitVec 32 := 0#32
  let v64 : BitVec 32 := Scalar.addi v63 c0_i32_24
  let c125_i32_30 : BitVec 32 := 125#32
  let v74 : BitVec 32 := Scalar.muli v64 c125_i32_30
  let v75 : BitVec 32 := Scalar.addi v21 v74
  let c0_i32_57 : BitVec 32 := 0#32
  let c1_i32_59 : BitVec 32 := 1#32
  let arg15 : BitVec 32 := Scf.iv c0_i32_57 c1_i32_59 k0_t4
  let v135 : BitVec 32 := Scalar.addi v75 arg15
  let v136 : Index := Scalar.indexCast v135
  ![v136.toNat]
def k0_off11 (v140 : BitVec 32) (c0_i32_63 : BitVec 32) : Fin 1 → Nat :=
  let c128_i32_61 : BitVec 32 := 128#32
  let v141 : BitVec 32 := Scalar.muli v140 c128_i32_61
  let v143 : BitVec 32 := Scalar.addi v141 c0_i32_63
  let v144 : Index := Scalar.indexCast v143
  ![v144.toNat]
def k0_cond2 (v80 : BitVec 32) (v87 : BitVec 32) : BitVec 1 :=
  let v91 : BitVec 1 := Scalar.cmpi .ne v80 v87
  let v92 : BitVec 32 := Scalar.extui v91
  let c0_i32_35 : BitVec 32 := 0#32
  let v93 : BitVec 1 := Scalar.cmpi .ne v92 c0_i32_35
  v93

def k0_off12 (k0_t4 : Fin k0_t4_loop.trips) (c0_i32_64 : BitVec 32) : Fin 1 → Nat :=
  let c0_i32_57 : BitVec 32 := 0#32
  let c1_i32_59 : BitVec 32 := 1#32
  let arg15 : BitVec 32 := Scf.iv c0_i32_57 c1_i32_59 k0_t4
  let c128_i32_62 : BitVec 32 := 128#32
  let v142 : BitVec 32 := Scalar.muli arg15 c128_i32_62
  let v147 : BitVec 32 := Scalar.addi v142 c0_i32_64
  let v150 : Index := Scalar.indexCast v147
  ![v150.toNat]
def k0_off13 (v140 : BitVec 32) : Fin 1 → Nat :=
  let c0_i32_83 : BitVec 32 := 0#32
  let v264 : BitVec 1 := Scalar.cmpi .sgt v140 c0_i32_83
  let v265 : BitVec 32 := Scalar.extui v264
  let c0_i32_84 : BitVec 32 := 0#32
  let v266 : BitVec 1 := Scalar.cmpi .slt v140 c0_i32_84
  let v267 : BitVec 32 := Scalar.extui v266
  let v268 : BitVec 32 := Scalar.subi v265 v267
  let c16_i32_82 : BitVec 32 := 16#32
  let c0_i32_85 : BitVec 32 := 0#32
  let v269 : BitVec 1 := Scalar.cmpi .sgt c16_i32_82 c0_i32_85
  let v270 : BitVec 32 := Scalar.extui v269
  let c0_i32_86 : BitVec 32 := 0#32
  let v271 : BitVec 1 := Scalar.cmpi .slt c16_i32_82 c0_i32_86
  let v272 : BitVec 32 := Scalar.extui v271
  let v273 : BitVec 32 := Scalar.subi v270 v272
  let v274 : BitVec 1 := Scalar.cmpi .ne v268 v273
  let v275 : BitVec 32 := Scalar.remsi v140 c16_i32_82
  let c0_i32_87 : BitVec 32 := 0#32
  let v276 : BitVec 1 := Scalar.cmpi .ne v275 c0_i32_87
  let v277 : BitVec 1 := Scalar.andi v274 v276
  let v263 : BitVec 32 := Scalar.divsi v140 c16_i32_82
  let c1_i32_88 : BitVec 32 := 1#32
  let v278 : BitVec 32 := Scalar.subi v263 c1_i32_88
  let v279 : BitVec 32 := Scalar.select v277 v278 v263
  let c16_i32_89 : BitVec 32 := 16#32
  let v280 : BitVec 32 := Scalar.muli v279 c16_i32_89
  let v281 : Index := Scalar.indexCast v280
  ![v281.toNat]

def k0_chk2 (v80 : BitVec 32) (v87 : BitVec 32) (v140 : BitVec 32) : Prop :=
  (∀ (k0_h2 : k0_cond2 v80 v87 = 1#1), ∀ (r : Fin 8), ∀ a, (k0_off11 v140 (BitVec.ofNat 32 (16 * r.val))) a + S16.size a ≤ S8192.size a) ∧
  (∀ (k0_h2 : k0_cond2 v80 v87 = 1#1), ∀ a, (k0_off13 v140) a + S16.size a ≤ S64.size a)
theorem k0_off11_inb : ∀ (v80 : BitVec 32) (v87 : BitVec 32) (v140 : BitVec 32) (k0_hw2 : k0_chk2 v80 v87 v140), ∀ (k0_h2 : k0_cond2 v80 v87 = 1#1), ∀ (r : Fin 8), ∀ a, (k0_off11 v140 (BitVec.ofNat 32 (16 * r.val))) a + S16.size a ≤ S8192.size a := fun v80 v87 v140 k0_hw2 k0_h2 r => k0_hw2.1 k0_h2 r
theorem k0_off13_inb : ∀ (v80 : BitVec 32) (v87 : BitVec 32) (v140 : BitVec 32) (k0_hw2 : k0_chk2 v80 v87 v140), ∀ (k0_h2 : k0_cond2 v80 v87 = 1#1), ∀ a, (k0_off13 v140) a + S16.size a ≤ S64.size a := fun v80 v87 v140 k0_hw2 k0_h2 => k0_hw2.2 k0_h2

def k0_cond3 (k0_t2 : Fin k0_t2_loop.trips) : BitVec 1 :=
  let c0_i32_18 : BitVec 32 := 0#32
  let c1_i32_19 : BitVec 32 := 1#32
  let arg13 : BitVec 32 := Scf.iv c0_i32_18 c1_i32_19 k0_t2
  let c2_i32_23 : BitVec 32 := 2#32
  let v63 : BitVec 32 := Scalar.muli arg13 c2_i32_23
  let c0_i32_24 : BitVec 32 := 0#32
  let v64 : BitVec 32 := Scalar.addi v63 c0_i32_24
  let c2_i32_36 : BitVec 32 := 2#32
  let v94 : BitVec 32 := Scalar.addi v64 c2_i32_36
  let c12_i32 : BitVec 32 := 12#32
  let v95 : BitVec 1 := Scalar.cmpi .slt v94 c12_i32
  let v96 : BitVec 32 := Scalar.extui v95
  let c0_i32_37 : BitVec 32 := 0#32
  let v97 : BitVec 1 := Scalar.cmpi .ne v96 c0_i32_37
  v97

def k0_off14 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1500_i32 : BitVec 32 := 1500#32
  let v2 : BitVec 32 := Scalar.muli v1 c1500_i32
  let c0_i32_18 : BitVec 32 := 0#32
  let c1_i32_19 : BitVec 32 := 1#32
  let arg13 : BitVec 32 := Scf.iv c0_i32_18 c1_i32_19 k0_t2
  let c2_i32_23 : BitVec 32 := 2#32
  let v63 : BitVec 32 := Scalar.muli arg13 c2_i32_23
  let c0_i32_24 : BitVec 32 := 0#32
  let v64 : BitVec 32 := Scalar.addi v63 c0_i32_24
  let c2_i32_56 : BitVec 32 := 2#32
  let v133 : BitVec 32 := Scalar.addi v64 c2_i32_56
  let c125_i32_57 : BitVec 32 := 125#32
  let v134 : BitVec 32 := Scalar.muli v133 c125_i32_57
  let v135 : BitVec 32 := Scalar.addi v2 v134
  let c128_i32_58 : BitVec 32 := 128#32
  let v136 : BitVec 32 := Scalar.muli v135 c128_i32_58
  ![v136.toNat]
def k0_off15 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1500_i32 : BitVec 32 := 1500#32
  let v2 : BitVec 32 := Scalar.muli v1 c1500_i32
  let c0_i32_18 : BitVec 32 := 0#32
  let c1_i32_19 : BitVec 32 := 1#32
  let arg13 : BitVec 32 := Scf.iv c0_i32_18 c1_i32_19 k0_t2
  let c2_i32_38 : BitVec 32 := 2#32
  let v98 : BitVec 32 := Scalar.muli arg13 c2_i32_38
  let c1_i32_39 : BitVec 32 := 1#32
  let v99 : BitVec 32 := Scalar.addi v98 c1_i32_39
  let c125_i32_40 : BitVec 32 := 125#32
  let v100 : BitVec 32 := Scalar.muli v99 c125_i32_40
  let v101 : BitVec 32 := Scalar.addi v2 v100
  let c128_i32_41 : BitVec 32 := 128#32
  let v102 : BitVec 32 := Scalar.muli v101 c128_i32_41
  ![v102.toNat]
def k0_off16 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1500_i32 : BitVec 32 := 1500#32
  let v2 : BitVec 32 := Scalar.muli v1 c1500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let v21 : BitVec 32 := Scalar.subi v2 v20
  let c0_i32_18 : BitVec 32 := 0#32
  let c1_i32_19 : BitVec 32 := 1#32
  let arg13 : BitVec 32 := Scf.iv c0_i32_18 c1_i32_19 k0_t2
  let c2_i32_38 : BitVec 32 := 2#32
  let v98 : BitVec 32 := Scalar.muli arg13 c2_i32_38
  let c1_i32_39 : BitVec 32 := 1#32
  let v99 : BitVec 32 := Scalar.addi v98 c1_i32_39
  let c125_i32_45 : BitVec 32 := 125#32
  let v109 : BitVec 32 := Scalar.muli v99 c125_i32_45
  let v110 : BitVec 32 := Scalar.addi v21 v109
  let v111 : Index := Scalar.indexCast v110
  ![v111.toNat]
def k0_off17 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1500_i32 : BitVec 32 := 1500#32
  let v2 : BitVec 32 := Scalar.muli v1 c1500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let v21 : BitVec 32 := Scalar.subi v2 v20
  let c0_i32_18 : BitVec 32 := 0#32
  let c1_i32_19 : BitVec 32 := 1#32
  let arg13 : BitVec 32 := Scf.iv c0_i32_18 c1_i32_19 k0_t2
  let c2_i32_38 : BitVec 32 := 2#32
  let v98 : BitVec 32 := Scalar.muli arg13 c2_i32_38
  let c1_i32_39 : BitVec 32 := 1#32
  let v99 : BitVec 32 := Scalar.addi v98 c1_i32_39
  let c125_i32_45 : BitVec 32 := 125#32
  let v109 : BitVec 32 := Scalar.muli v99 c125_i32_45
  let v110 : BitVec 32 := Scalar.addi v21 v109
  let c125_i32_46 : BitVec 32 := 125#32
  let v116 : BitVec 32 := Scalar.addi v110 c125_i32_46
  let c16_i32_47 : BitVec 32 := 16#32
  let v117 : BitVec 32 := Scalar.subi v116 c16_i32_47
  let v118 : Index := Scalar.indexCast v117
  ![v118.toNat]
@[reducible] def k0_t5_loop : Scf.Loop 32 :=
  let c0_i32_56 : BitVec 32 := 0#32
  let c125_i32_57 : BitVec 32 := 125#32
  let v133 : BitVec 32 := Scalar.addi c0_i32_56 c125_i32_57
  let c1_i32_58 : BitVec 32 := 1#32
  ⟨c0_i32_56, v133, c1_i32_58⟩
def k0_off18 (k0_t5 : Fin k0_t5_loop.trips) (c0_i32_75 : BitVec 32) : Fin 1 → Nat :=
  let c0_i32_56 : BitVec 32 := 0#32
  let c1_i32_58 : BitVec 32 := 1#32
  let arg15 : BitVec 32 := Scf.iv c0_i32_56 c1_i32_58 k0_t5
  let c128_i32_74 : BitVec 32 := 128#32
  let v241 : BitVec 32 := Scalar.muli arg15 c128_i32_74
  let v242 : BitVec 32 := Scalar.addi v241 c0_i32_75
  let v245 : Index := Scalar.indexCast v242
  ![v245.toNat]
def k0_off19 (v115 : BitVec 32) (c0_i32_61 : BitVec 32) : Fin 1 → Nat :=
  let c128_i32_60 : BitVec 32 := 128#32
  let v135 : BitVec 32 := Scalar.muli v115 c128_i32_60
  let v136 : BitVec 32 := Scalar.addi v135 c0_i32_61
  let v137 : Index := Scalar.indexCast v136
  ![v137.toNat]
def k0_cond4 (v115 : BitVec 32) (v122 : BitVec 32) : BitVec 1 :=
  let v123 : BitVec 1 := Scalar.cmpi .eq v115 v122
  let v124 : BitVec 32 := Scalar.extui v123
  let c0_i32_49 : BitVec 32 := 0#32
  let v125 : BitVec 1 := Scalar.cmpi .ne v124 c0_i32_49
  v125

def k0_off20 (v115 : BitVec 32) : Fin 1 → Nat :=
  let c0_i32_65 : BitVec 32 := 0#32
  let v209 : BitVec 1 := Scalar.cmpi .sgt v115 c0_i32_65
  let v210 : BitVec 32 := Scalar.extui v209
  let c0_i32_66 : BitVec 32 := 0#32
  let v211 : BitVec 1 := Scalar.cmpi .slt v115 c0_i32_66
  let v212 : BitVec 32 := Scalar.extui v211
  let v213 : BitVec 32 := Scalar.subi v210 v212
  let c16_i32_64 : BitVec 32 := 16#32
  let c0_i32_67 : BitVec 32 := 0#32
  let v214 : BitVec 1 := Scalar.cmpi .sgt c16_i32_64 c0_i32_67
  let v215 : BitVec 32 := Scalar.extui v214
  let c0_i32_68 : BitVec 32 := 0#32
  let v216 : BitVec 1 := Scalar.cmpi .slt c16_i32_64 c0_i32_68
  let v217 : BitVec 32 := Scalar.extui v216
  let v218 : BitVec 32 := Scalar.subi v215 v217
  let v219 : BitVec 1 := Scalar.cmpi .ne v213 v218
  let v220 : BitVec 32 := Scalar.remsi v115 c16_i32_64
  let c0_i32_69 : BitVec 32 := 0#32
  let v221 : BitVec 1 := Scalar.cmpi .ne v220 c0_i32_69
  let v222 : BitVec 1 := Scalar.andi v219 v221
  let v208 : BitVec 32 := Scalar.divsi v115 c16_i32_64
  let c1_i32_70 : BitVec 32 := 1#32
  let v223 : BitVec 32 := Scalar.subi v208 c1_i32_70
  let v224 : BitVec 32 := Scalar.select v222 v223 v208
  let c16_i32_71 : BitVec 32 := 16#32
  let v225 : BitVec 32 := Scalar.muli v224 c16_i32_71
  let v226 : Index := Scalar.indexCast v225
  ![v226.toNat]

def k0_chk3 (v115 : BitVec 32) (v122 : BitVec 32) : Prop :=
  (∀ (k0_h4 : k0_cond4 v115 v122 = 1#1), ∀ (r : Fin 8), ∀ a, (k0_off19 v115 (BitVec.ofNat 32 (16 * r.val))) a + S16.size a ≤ S8192.size a) ∧
  (∀ (k0_h4 : k0_cond4 v115 v122 = 1#1), ∀ a, (k0_off20 v115) a + S16.size a ≤ S64.size a)
theorem k0_off19_inb : ∀ (v115 : BitVec 32) (v122 : BitVec 32) (k0_hw3 : k0_chk3 v115 v122), ∀ (k0_h4 : k0_cond4 v115 v122 = 1#1), ∀ (r : Fin 8), ∀ a, (k0_off19 v115 (BitVec.ofNat 32 (16 * r.val))) a + S16.size a ≤ S8192.size a := fun v115 v122 k0_hw3 k0_h4 r => k0_hw3.1 k0_h4 r
theorem k0_off20_inb : ∀ (v115 : BitVec 32) (v122 : BitVec 32) (k0_hw3 : k0_chk3 v115 v122), ∀ (k0_h4 : k0_cond4 v115 v122 = 1#1), ∀ a, (k0_off20 v115) a + S16.size a ≤ S64.size a := fun v115 v122 k0_hw3 k0_h4 => k0_hw3.2 k0_h4

@[reducible] def k0_t6_loop : Scf.Loop 32 :=
  let c0_i32_57 : BitVec 32 := 0#32
  let c125_i32_58 : BitVec 32 := 125#32
  let v133 : BitVec 32 := Scalar.addi c0_i32_57 c125_i32_58
  let c1_i32_59 : BitVec 32 := 1#32
  ⟨c0_i32_57, v133, c1_i32_59⟩
def k0_off21 (i : grid0.Coords) (k0_t2 : Fin k0_t2_loop.trips) (k0_t6 : Fin k0_t6_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1500_i32 : BitVec 32 := 1500#32
  let v2 : BitVec 32 := Scalar.muli v1 c1500_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32 : BitVec 32 := 1#32
  let v18 : BitVec 32 := Scalar.subi v3 c1_i32
  let v19 : BitVec 32 := Scalar.select v17 v18 v3
  let c8_i32_4 : BitVec 32 := 8#32
  let v20 : BitVec 32 := Scalar.muli v19 c8_i32_4
  let v21 : BitVec 32 := Scalar.subi v2 v20
  let c0_i32_18 : BitVec 32 := 0#32
  let c1_i32_19 : BitVec 32 := 1#32
  let arg13 : BitVec 32 := Scf.iv c0_i32_18 c1_i32_19 k0_t2
  let c2_i32_38 : BitVec 32 := 2#32
  let v98 : BitVec 32 := Scalar.muli arg13 c2_i32_38
  let c1_i32_39 : BitVec 32 := 1#32
  let v99 : BitVec 32 := Scalar.addi v98 c1_i32_39
  let c125_i32_45 : BitVec 32 := 125#32
  let v109 : BitVec 32 := Scalar.muli v99 c125_i32_45
  let v110 : BitVec 32 := Scalar.addi v21 v109
  let c0_i32_57 : BitVec 32 := 0#32
  let c1_i32_59 : BitVec 32 := 1#32
  let arg15 : BitVec 32 := Scf.iv c0_i32_57 c1_i32_59 k0_t6
  let v135 : BitVec 32 := Scalar.addi v110 arg15
  let v136 : Index := Scalar.indexCast v135
  ![v136.toNat]
def k0_off22 (v140 : BitVec 32) (c0_i32_63 : BitVec 32) : Fin 1 → Nat :=
  let c128_i32_61 : BitVec 32 := 128#32
  let v141 : BitVec 32 := Scalar.muli v140 c128_i32_61
  let v143 : BitVec 32 := Scalar.addi v141 c0_i32_63
  let v144 : Index := Scalar.indexCast v143
  ![v144.toNat]
def k0_cond5 (v115 : BitVec 32) (v122 : BitVec 32) : BitVec 1 :=
  let v126 : BitVec 1 := Scalar.cmpi .ne v115 v122
  let v127 : BitVec 32 := Scalar.extui v126
  let c0_i32_51 : BitVec 32 := 0#32
  let v128 : BitVec 1 := Scalar.cmpi .ne v127 c0_i32_51
  v128

def k0_off23 (k0_t6 : Fin k0_t6_loop.trips) (c0_i32_64 : BitVec 32) : Fin 1 → Nat :=
  let c0_i32_57 : BitVec 32 := 0#32
  let c1_i32_59 : BitVec 32 := 1#32
  let arg15 : BitVec 32 := Scf.iv c0_i32_57 c1_i32_59 k0_t6
  let c128_i32_62 : BitVec 32 := 128#32
  let v142 : BitVec 32 := Scalar.muli arg15 c128_i32_62
  let v147 : BitVec 32 := Scalar.addi v142 c0_i32_64
  let v150 : Index := Scalar.indexCast v147
  ![v150.toNat]
def k0_off24 (v140 : BitVec 32) : Fin 1 → Nat :=
  let c0_i32_83 : BitVec 32 := 0#32
  let v264 : BitVec 1 := Scalar.cmpi .sgt v140 c0_i32_83
  let v265 : BitVec 32 := Scalar.extui v264
  let c0_i32_84 : BitVec 32 := 0#32
  let v266 : BitVec 1 := Scalar.cmpi .slt v140 c0_i32_84
  let v267 : BitVec 32 := Scalar.extui v266
  let v268 : BitVec 32 := Scalar.subi v265 v267
  let c16_i32_82 : BitVec 32 := 16#32
  let c0_i32_85 : BitVec 32 := 0#32
  let v269 : BitVec 1 := Scalar.cmpi .sgt c16_i32_82 c0_i32_85
  let v270 : BitVec 32 := Scalar.extui v269
  let c0_i32_86 : BitVec 32 := 0#32
  let v271 : BitVec 1 := Scalar.cmpi .slt c16_i32_82 c0_i32_86
  let v272 : BitVec 32 := Scalar.extui v271
  let v273 : BitVec 32 := Scalar.subi v270 v272
  let v274 : BitVec 1 := Scalar.cmpi .ne v268 v273
  let v275 : BitVec 32 := Scalar.remsi v140 c16_i32_82
  let c0_i32_87 : BitVec 32 := 0#32
  let v276 : BitVec 1 := Scalar.cmpi .ne v275 c0_i32_87
  let v277 : BitVec 1 := Scalar.andi v274 v276
  let v263 : BitVec 32 := Scalar.divsi v140 c16_i32_82
  let c1_i32_88 : BitVec 32 := 1#32
  let v278 : BitVec 32 := Scalar.subi v263 c1_i32_88
  let v279 : BitVec 32 := Scalar.select v277 v278 v263
  let c16_i32_89 : BitVec 32 := 16#32
  let v280 : BitVec 32 := Scalar.muli v279 c16_i32_89
  let v281 : Index := Scalar.indexCast v280
  ![v281.toNat]

def k0_chk4 (v115 : BitVec 32) (v122 : BitVec 32) (v140 : BitVec 32) : Prop :=
  (∀ (k0_h5 : k0_cond5 v115 v122 = 1#1), ∀ (r : Fin 8), ∀ a, (k0_off22 v140 (BitVec.ofNat 32 (16 * r.val))) a + S16.size a ≤ S8192.size a) ∧
  (∀ (k0_h5 : k0_cond5 v115 v122 = 1#1), ∀ a, (k0_off24 v140) a + S16.size a ≤ S64.size a)
theorem k0_off22_inb : ∀ (v115 : BitVec 32) (v122 : BitVec 32) (v140 : BitVec 32) (k0_hw4 : k0_chk4 v115 v122 v140), ∀ (k0_h5 : k0_cond5 v115 v122 = 1#1), ∀ (r : Fin 8), ∀ a, (k0_off22 v140 (BitVec.ofNat 32 (16 * r.val))) a + S16.size a ≤ S8192.size a := fun v115 v122 v140 k0_hw4 k0_h5 r => k0_hw4.1 k0_h5 r
theorem k0_off24_inb : ∀ (v115 : BitVec 32) (v122 : BitVec 32) (v140 : BitVec 32) (k0_hw4 : k0_chk4 v115 v122 v140), ∀ (k0_h5 : k0_cond5 v115 v122 = 1#1), ∀ a, (k0_off24 v140) a + S16.size a ≤ S64.size a := fun v115 v122 v140 k0_hw4 k0_h5 => k0_hw4.2 k0_h5

def k0_cond6 (k0_t2 : Fin k0_t2_loop.trips) : BitVec 1 :=
  let c0_i32_18 : BitVec 32 := 0#32
  let c1_i32_19 : BitVec 32 := 1#32
  let arg13 : BitVec 32 := Scf.iv c0_i32_18 c1_i32_19 k0_t2
  let c2_i32_38 : BitVec 32 := 2#32
  let v98 : BitVec 32 := Scalar.muli arg13 c2_i32_38
  let c1_i32_39 : BitVec 32 := 1#32
  let v99 : BitVec 32 := Scalar.addi v98 c1_i32_39
  let c2_i32_52 : BitVec 32 := 2#32
  let v129 : BitVec 32 := Scalar.addi v99 c2_i32_52
  let c12_i32_53 : BitVec 32 := 12#32
  let v130 : BitVec 1 := Scalar.cmpi .slt v129 c12_i32_53
  let v131 : BitVec 32 := Scalar.extui v130
  let c0_i32_54 : BitVec 32 := 0#32
  let v132 : BitVec 1 := Scalar.cmpi .ne v131 c0_i32_54
  v132

def k0_off25 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1500_i32 : BitVec 32 := 1500#32
  let v2 : BitVec 32 := Scalar.muli v1 c1500_i32
  let c0_i32_18 : BitVec 32 := 0#32
  let c1_i32_19 : BitVec 32 := 1#32
  let arg13 : BitVec 32 := Scf.iv c0_i32_18 c1_i32_19 k0_t2
  let c2_i32_38 : BitVec 32 := 2#32
  let v98 : BitVec 32 := Scalar.muli arg13 c2_i32_38
  let c1_i32_39 : BitVec 32 := 1#32
  let v99 : BitVec 32 := Scalar.addi v98 c1_i32_39
  let c2_i32_56 : BitVec 32 := 2#32
  let v133 : BitVec 32 := Scalar.addi v99 c2_i32_56
  let c125_i32_57 : BitVec 32 := 125#32
  let v134 : BitVec 32 := Scalar.muli v133 c125_i32_57
  let v135 : BitVec 32 := Scalar.addi v2 v134
  let c128_i32_58 : BitVec 32 := 128#32
  let v136 : BitVec 32 := Scalar.muli v135 c128_i32_58
  ![v136.toNat]
def k0_off26 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v60 : BitVec 32 := Scalar.muli v1 c64_i32
  let c128_i32_21 : BitVec 32 := 128#32
  let v61 : BitVec 32 := Scalar.muli v60 c128_i32_21
  ![v61.toNat]
def k0_off27 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32_22 : BitVec 32 := 64#32
  let v62 : BitVec 32 := Scalar.muli v1 c64_i32_22
  ![v62.toNat]
abbrev grid1 : Pipeline.Grid := ⟨1, ![26], ![false]⟩

def k1_cond1 (i : grid1.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_5 : BitVec 32 := 0#32
  let v14 : BitVec 1 := Scalar.cmpi .ne v13 c0_i32_5
  v14

def k1_cond2 (i : grid1.Coords) : BitVec 1 :=
  let arg0 : BitVec 32 := BitVec.ofNat 32 (i 0).val
  let c0_i32_6 : BitVec 32 := 0#32
  let v15 : BitVec 1 := Scalar.cmpi .sgt arg0 c0_i32_6
  let v16 : BitVec 32 := Scalar.extui v15
  let c0_i32_7 : BitVec 32 := 0#32
  let v17 : BitVec 1 := Scalar.cmpi .ne v16 c0_i32_7
  v17

def cc1_transform_0 (i : grid1.Coords) : Fin 3 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S1x1x2000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := .none

abbrev stage2_0 : Fin 1 → Memref sig .tc .vmem S32x64x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x128x1 : Shape := ⟨3, ![100000, 128, 1]⟩
abbrev S100000 : Shape := ⟨1, ![100000]⟩
abbrev S100000x128 : Shape := ⟨2, ![100000, 128]⟩
abbrev S_ : Shape := ⟨0, ![]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩

abbrev nBuf : Space → Nat
  | .hbm => 31
  | .vmem => 0
  | .smem => 0
  | _ => 0

abbrev bufTy : (tb : Table) → Fin (tcTables nBuf tb) → BufTy
  | .hbm, ⟨0, _⟩ => ⟨S100000x128x1, .f32⟩
  | .hbm, ⟨1, _⟩ => ⟨S100000, .i32⟩
  | .hbm, ⟨2, _⟩ => ⟨S100000x128, .f32⟩
  | .hbm, ⟨3, _⟩ => ⟨S_, .f32⟩
  | .hbm, ⟨4, _⟩ => ⟨S64x128, .f32⟩
  | .hbm, ⟨5, _⟩ => ⟨S100000x1, .i32⟩
  | .hbm, ⟨6, _⟩ => ⟨S64x128, .f32⟩
  | .hbm, ⟨7, _⟩ => ⟨S_, .i32⟩
  | .hbm, ⟨8, _⟩ => ⟨S64, .i32⟩
  | .hbm, ⟨9, _⟩ => ⟨S_, .i32⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S_, .i32⟩
  | .hbm, ⟨14, _⟩ => ⟨S100000, .i32⟩
  | .hbm, ⟨15, _⟩ => ⟨S100000, .i1⟩
  | .hbm, ⟨16, _⟩ => ⟨S_, .i32⟩
  | .hbm, ⟨17, _⟩ => ⟨S100000, .i32⟩
  | .hbm, ⟨18, _⟩ => ⟨S100000, .i32⟩
  | .hbm, ⟨19, _⟩ => ⟨S100000, .i32⟩
  | .hbm, ⟨20, _⟩ => ⟨S100000x1, .i32⟩
  | .hbm, ⟨21, _⟩ => ⟨S_, .i32⟩
  | .hbm, ⟨22, _⟩ => ⟨S100000, .i32⟩
  | .hbm, ⟨23, _⟩ => ⟨S64, .i32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64x1, .f32⟩
  | .hbm, ⟨29, _⟩ => ⟨S64x128, .f32⟩
  | .hbm, ⟨30, _⟩ => ⟨S64x128, .f32⟩
  | _, _ => ⟨S100000x128x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Proof.Setup.lean ====
/-
  The program as the launch theorem sees it, the resource algebra, and the names of the arrays and of a tile's
  buffers: what every module of the kernel's run shares.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-- The labels of the two TensorCore pipelines over the program's own. -/
abbrev ΛP : Labels := Pipeline.Sig Λ₀ (Fin 2) fun p => (pcfgs (F := F) p).Adm
/-- The SparseCore configuration of the program. -/
abbrev K : SparseCore.Cfg τ sig (ΛP (F := F)) 1 := sc (F := F)
theorem nSub_zero : (K (F := F)).nSub 0 = 16 := rfl
theorem nCore_zero : (K (F := F)).nCore 0 = 2 := rfl
/-- The bodies under the SparseCore layer: the pipelines' over the kernels'. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side facts of the launch: which semaphores are scoped, and which are distinct. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The pipelines' rounds. -/
abbrev UPipe : Type := URounds (GSem nD τ sig) Unit
/-- Handshakes, pipelines, local transfers. -/
abbrev UU : Type := UH × (UPipe × Counters)

abbrev EH : Emb UH (MT nD τ sig (HIx 1) (Elt F) ℕ UU ℕ) := embL
/-- The pipelines' rounds: the left half of the right factor. -/
def EP : Emb UPipe (MT nD τ sig (HIx 1) (Elt F) ℕ UU ℕ) :=
  ((Emb.inl : Emb UPipe (UPipe × Counters)).trans (Emb.inr : Emb (UPipe × Counters) UU)).trans
    (uEmb (nD := nD) (sig := sig) (Ix := HIx 1) (Val := Elt F) (Name := ℕ) (U := UU) (Lvl := ℕ)).toEmb
instance EP_landsIn : (EP : Emb UPipe (MT nD τ sig (HIx 1) (Elt F) ℕ UU ℕ)).LandsIn (upEmb : UEmb _ (MT nD τ sig (HIx 1) (Elt F) ℕ UU ℕ)) := by
  unfold EP; infer_instance

/-- SparseCore and vector subcore of grid coordinates. -/
abbrev cV (L : grid0.Coords) : Fin τ.nSC := (L 0).castLE hcore0
abbrev jV (L : grid0.Coords) : Fin τ.nSub := (L 1).castLE hsub0

/-- A tile's number: twice its subcore and its core. -/
def wid (L : grid0.Coords) : Nat := 2 * (L 1).val + (L 0).val

theorem wid_lt (L : grid0.Coords) : wid L < 32 := by
  have h0 : (L 0).val < 2 := (L 0).isLt
  have h1 : (L 1).val < 16 := (L 1).isLt
  unfold wid; omega

end Cert.Proof.Seg
-- ==== Proof.Bodies.lean ====
/-
  The bodies of the two TensorCore kernels, run once each over any whole staging buffers: what the block kernel
  leaves at its first point (the block's one-hot product and counts) and at a later point (added to what it found),
  and what the combining kernel leaves.
-/
module

public import proofs.«01_k».proof.Proof.Setup
public import Idealize.ShloMosaic.Lib.Pipeline.Frame
public import Idealize.ShloMosaic.Lib.Pipeline.FrameBody
public import Idealize.ShloMosaic.Lib.Pipeline.Value
public import proofs.«01_k».proof.Proof.Gen.KernelIdeal.Launch
public import proofs.«01_k».proof.Proof.Gen.KernelIdeal.Points

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode

variable {F : FTy → Type} [FloatOps F]

local notation "𝕄" => MT nD τ sig (HIx 1) (Elt F) ℕ UU ℕ

/-- The contents of memref `M`'s buffer on core `c`, -/
abbrev Bf (c : Dev nD) {sp : Space} {S : Shape} {e : EltTy} (M : Memref sig .tc sp S e) : Type := Buf (Elt F) (M.view.loc (c : Thread nD τ))
/-- and that buffer held whole at `f`. -/
abbrev pt (c : Dev nD) {sp : Space} {S : Shape} {e : EltTy} (M : Memref sig .tc sp S e) (f : Bf (F := F) c M) : sProp (MT nD τ sig (HIx 1) (Elt F) ℕ UU ℕ) :=
  M.view.loc (c : Thread nD τ) ↦{fullShare} f

theorem z1 : (![0] : Fin 1 → Nat) = fun _ => 0 := funext fun a => by fin_cases a; rfl
theorem z2 : (![0, 0] : Fin 2 → Nat) = fun _ => 0 := funext fun a => by fin_cases a <;> rfl
theorem z3 : (![0, 0, 0] : Fin 3 → Nat) = fun _ => 0 := funext fun a => by fin_cases a <;> rfl

section Whole

variable {sp : Space} {s : Shape} {e : EltTy}

/-- A load of the whole shape at offset zero reads the view's contents. -/
theorem readAt_zero (v : View sig .tc sp s e) {off : Fin s.rank → Nat} (h : off = fun _ => 0) (inb : ∀ a, off a + s.size a ≤ s.size a)
    (f : v.ty.Contents (Elt F)) : v.readAt (Elt F) (Rect.unit off s.size inb).toLoadRect f = v.read (Elt F) f :=
  View.ld_unit_zero h inb (v.read (Elt F) f)

/-- A store of the whole shape at offset zero leaves its payload to be read. -/
theorem read_writes_zero [∀ e, Nonempty (Elt F e)] (v : View sig .tc sp s e) {off : Fin s.rank → Nat} (h : off = fun _ => 0) (inb : ∀ a, off a + s.size a ≤ s.size a)
    (f : v.ty.Contents (Elt F)) (w : s.Idx → Elt F e) : v.read (Elt F) (v.writes (Elt F) f [⟨Rect.unit off s.size inb, w⟩]) = w := by
  rw [View.read_writes_eq_canon, View.canon_unit_zero h]
  intro y
  refine ⟨_, List.mem_singleton_self _, ?_⟩
  subst h
  exact (Rect.set_whole s).symm ▸ Finset.mem_univ y

end Whole

variable [∀ e, Nonempty (Elt F e)]

/-- The combining kernel: its result buffer reads as the quotient of the summed parts and the summed counts, the
    others as before. -/
theorem run2 (c : Dev nD) (M0 : Memref sig .tc .vmem S32x64x128 .f32) (h0 : M0.IsWhole) (M1 : Memref sig .tc .vmem S32x64 .f32) (h1 : M1.IsWhole)
    (M2 : Memref sig .tc .vmem S64x128 .f32) (h2 : M2.IsWhole) (M3 : Memref sig .tc .vmem S64 .f32) (h3 : M3.IsWhole) (M4 : Memref sig .tc .vmem S64x128 .f32) (h4 : M4.IsWhole)
    (f0 : Bf (F := F) c M0) (f1 : Bf (F := F) c M1) (f2 : Bf (F := F) c M2) (f3 : Bf (F := F) c M3) (f4 : Bf (F := F) c M4) (Q : PUnit → sProp 𝕄) :
    iprop(pt c M0 f0 ∗ pt c M1 f1 ∗ pt c M2 f2 ∗ pt c M3 f3 ∗ pt c M4 f4
        ∗ (∀ g : Bf (F := F) c M4, pt c M4 g ∗ ⌜M4.view.read (Elt F) g = k2_pay1 (M0.view.read (Elt F) f0) (M2.view.read (Elt F) f2) (M1.view.read (Elt F) f1) (M3.view.read (Elt F) f3)⌝
          ∗ pt c M0 f0 ∗ pt c M1 f1 ∗ pt c M2 f2 ∗ pt c M3 f3 -∗ Q ⟨⟩))
      ⊢ wp frame (wpE (defs₀ (F := F)) 𝒱₀ c none) Set.univ (cc2_body M0 h0 M1 h1 M2 h2 M3 h3 M4 h4) Q := by
  rw [cc2_body_eq_skeleton]
  iintro ⟨H0, H1, H2, H3, H4, Hk⟩
  unfold cc2_body_skel
  sl_exec
  sl_step
  iapply Hk
  isplitl [H4]; · iexact H4
  isplitr
  · ipureintro
    rw [read_writes_zero _ z2, readAt_zero _ z3, readAt_zero _ z2, readAt_zero _ z2, readAt_zero _ z1]
  isplitl [H0]; · iexact H0
  isplitl [H1]; · iexact H1
  isplitl [H2]; · iexact H2
  iexact H3

/-- The block kernel at its first point: the two accumulators read as the block's product and counts. -/
theorem run1_first (c : Dev nD) (i : grid1.Coords) (hc1 : k1_cond1 i = 1#1) (hc2 : ¬ k1_cond2 i = 1#1)
    (M0 : Memref sig .tc .vmem S1x1x2000 .i32) (h0 : M0.IsWhole) (M1 : Memref sig .tc .vmem S2000x128 .f32) (h1 : M1.IsWhole)
    (M2 : Memref sig .tc .vmem S64x128 .f32) (h2 : M2.IsWhole) (M3 : Memref sig .tc .vmem S64 .f32) (h3 : M3.IsWhole)
    (f0 : Bf (F := F) c M0) (f1 : Bf (F := F) c M1) (f2 : Bf (F := F) c M2) (f3 : Bf (F := F) c M3) (Q : PUnit → sProp 𝕄) :
    iprop(pt c M0 f0 ∗ pt c M1 f1 ∗ pt c M2 f2 ∗ pt c M3 f3
        ∗ (∀ (g2 : Bf (F := F) c M2) (g3 : Bf (F := F) c M3), pt c M2 g2 ∗ pt c M3 g3
          ∗ ⌜M2.view.read (Elt F) g2 = k1_pay2 (M0.view.read (Elt F) f0) (M1.view.read (Elt F) f1) ∧ M3.view.read (Elt F) g3 = k1_pay3 (M0.view.read (Elt F) f0)⌝
          ∗ pt c M0 f0 ∗ pt c M1 f1 -∗ Q ⟨⟩))
      ⊢ wp frame (wpE (defs₀ (F := F)) 𝒱₀ c none) Set.univ (cc1_body i M0 h0 M1 h1 M2 h2 M3 h3) Q := by
  rw [cc1_body_eq_skeleton]
  iintro ⟨H0, H1, H2, H3, Hk⟩
  unfold cc1_body_skel
  sl_exec
  sl_step
  iapply Hk
  isplitl [H2]; · iexact H2
  isplitl [H3]; · iexact H3
  isplitr
  · ipureintro
    rw [read_writes_zero _ z2, read_writes_zero _ z1, readAt_zero _ z3, readAt_zero _ z2]
    exact ⟨rfl, rfl⟩
  isplitl [H0]; · iexact H0
  iexact H1

/-- The block kernel at a later point: the two accumulators read as the block's product and counts added to what
    they read before. -/
theorem run1_later (c : Dev nD) (i : grid1.Coords) (hc1 : ¬ k1_cond1 i = 1#1) (hc2 : k1_cond2 i = 1#1)
    (M0 : Memref sig .tc .vmem S1x1x2000 .i32) (h0 : M0.IsWhole) (M1 : Memref sig .tc .vmem S2000x128 .f32) (h1 : M1.IsWhole)
    (M2 : Memref sig .tc .vmem S64x128 .f32) (h2 : M2.IsWhole) (M3 : Memref sig .tc .vmem S64 .f32) (h3 : M3.IsWhole)
    (f0 : Bf (F := F) c M0) (f1 : Bf (F := F) c M1) (f2 : Bf (F := F) c M2) (f3 : Bf (F := F) c M3) (Q : PUnit → sProp 𝕄) :
    iprop(pt c M0 f0 ∗ pt c M1 f1 ∗ pt c M2 f2 ∗ pt c M3 f3
        ∗ (∀ (g2 : Bf (F := F) c M2) (g3 : Bf (F := F) c M3), pt c M2 g2 ∗ pt c M3 g3
          ∗ ⌜M2.view.read (Elt F) g2 = k1_pay4 (M0.view.read (Elt F) f0) (M1.view.read (Elt F) f1) (M2.view.read (Elt F) f2)
              ∧ M3.view.read (Elt F) g3 = k1_pay5 (M0.view.read (Elt F) f0) (M3.view.read (Elt F) f3)⌝
          ∗ pt c M0 f0 ∗ pt c M1 f1 -∗ Q ⟨⟩))
      ⊢ wp frame (wpE (defs₀ (F := F)) 𝒱₀ c none) Set.univ (cc1_body i M0 h0 M1 h1 M2 h2 M3 h3) Q := by
  rw [cc1_body_eq_skeleton]
  iintro ⟨H0, H1, H2, H3, Hk⟩
  unfold cc1_body_skel
  sl_exec
  sl_step
  iapply Hk
  isplitl [H2]; · iexact H2
  isplitl [H3]; · iexact H3
  isplitr
  · ipureintro
    rw [read_writes_zero _ z2, read_writes_zero _ z1, readAt_zero _ z3, readAt_zero _ z2, readAt_zero _ z2, readAt_zero _ z1]
    exact ⟨rfl, rfl⟩
  isplitl [H0]; · iexact H0
  iexact H1

end Cert.Proof.Seg
-- ==== Proof.Region1.lean ====
/-
  The block kernel's region: a one-hot product over the last 26 blocks of 2000 rows, the sums and the counts gathered
  in two accumulators that are written back once, after the last point.
-/
module

public import proofs.«01_k».proof.Proof.Bodies
public import Idealize.ShloMosaic.Lib.Pipeline.ValueKit.Geometry

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Pipeline (Dat Cfg Window BodyObligation)

variable {F : FTy → Type} [FloatOps F] [∀ e, Nonempty (Elt F e)]

local notation "𝕄" => MT nD τ sig (HIx 1) (Elt F) ℕ UU ℕ

/-- A whole memref held at what it reads is its buffer held whole at some contents that read so. -/
theorem owns_eq (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- Point `t`'s block of the segment numbers, and its block of rows, as the fetches stage them. -/
def blk0 (a0 : main_v2.ty.Contents (Elt F)) (t : Fin cfg1.N) : Vec F S1x1x2000 .i32 :=
  (cfg1.win 0).fill (cfg1.grid.coords t) (fun _ => Classical.arbitrary _) (((cfg1.win 0).blk t).view.read (Elt F) a0)
def blk1 (a1 : main_v0.ty.Contents (Elt F)) (t : Fin cfg1.N) : Vec F S2000x128 .f32 :=
  (cfg1.win 1).fill (cfg1.grid.coords t) (fun _ => Classical.arbitrary _) (((cfg1.win 1).blk t).view.read (Elt F) a1)

/-- The accumulated sums after point `n`: the first block's product, each later block's added. -/
def acc2 (x : Fin cfg1.N → Vec F S1x1x2000 .i32) (y : Fin cfg1.N → Vec F S2000x128 .f32) : (n : Nat) → n < cfg1.N → Vec F S64x128 .f32
  | 0, h => k1_pay2 (x ⟨0, h⟩) (y ⟨0, h⟩)
  | n + 1, h => k1_pay4 (x ⟨n + 1, h⟩) (y ⟨n + 1, h⟩) (acc2 x y n (Nat.lt_of_succ_lt h))
/-- The accumulated counts after point `n`. -/
def acc3 (x : Fin cfg1.N → Vec F S1x1x2000 .i32) : (n : Nat) → n < cfg1.N → Vec F S64 .f32
  | 0, h => k1_pay3 (x ⟨0, h⟩)
  | n + 1, h => k1_pay5 (x ⟨n + 1, h⟩) (acc3 x n (Nat.lt_of_succ_lt h))

section Data

variable (a0 : main_v2.ty.Contents (Elt F)) (a1 : main_v0.ty.Contents (Elt F)) (a2 : main_v4_0.ty.Contents (Elt F)) (a3 : main_v4_1.ty.Contents (Elt F))

/-- The bound on the recorded waits, as the launch asks it back. -/
abbrev recd (c : Dev nD) : Set (SemLoc sig × HIx 1) := {p | (K (F := F)).lev (SparseCore.T c, p.1) p.2 ≤ 8 * (inferInstance : SparseCore.Cfg.Blocks 1 1).fst 1}

/-- The region's proof data: the four arrays at their entry contents; after the body the inputs as fetched and the
    accumulators at the sums so far; nothing owed. -/
def dat1 (c : Dev nD) : Dat τ (Elt F) (HIx 1) ℕ UU ℕ cfg1 c where
  A w := match w with
    | ⟨0, _⟩ => a0
    | ⟨1, _⟩ => a1
    | ⟨2, _⟩ => a2
    | ⟨3, _⟩ => a3
  after w t := match w with
    | ⟨0, _⟩ => blk0 a0 t
    | ⟨1, _⟩ => blk1 a1 t
    | ⟨2, _⟩ => acc2 (blk0 a0) (blk1 a1) t.val t.isLt
    | ⟨3, _⟩ => acc3 (blk0 a0) t.val t.isLt
  Φ _ := Pipeline.scopedRest (Ix := HIx 1) (Name := ℕ) (U := UU) (Lvl := ℕ) (Val := Elt F) spec1 c
  q _ := fullShare
  owed _ := 0
  recorded _ := recd (F := F) c

theorem before1_0 (c : Dev nD) (t : Fin cfg1.N) (d) : (dat1 a0 a1 a2 a3 c).before 0 t d = blk0 a0 t := by
  unfold Dat.before; rw [if_pos (fetch1_0 t)]
  exact (dat1 a0 a1 a2 a3 c).fetched_of_clip_none 0 t (fun _ => rfl) d _
theorem before1_1 (c : Dev nD) (t : Fin cfg1.N) (d) : (dat1 a0 a1 a2 a3 c).before 1 t d = blk1 a1 t := by
  unfold Dat.before; rw [if_pos (fetch1_1 t)]
  exact (dat1 a0 a1 a2 a3 c).fetched_of_clip_none 1 t (fun _ => rfl) d _

theorem live1_2 : ∀ i, cfg1.idle 2 i = false := by
  have h : ∀ i : grid1.Coords, idle1 2 i = false := by decide +kernel
  exact h
theorem live1_3 : ∀ i, cfg1.idle 3 i = false := by
  have h : ∀ i : grid1.Coords, idle1 3 i = false := by decide +kernel
  exact h

theorem notFlush (t : Fin cfg1.N) (ht : t.val ≠ 0) : ∀ h : t.val - 1 < cfg1.N, (⟨t.val - 1, h⟩ : Fin cfg1.N).val % 26 ≠ 25 := by
  intro h
  have h' : t.val < 26 := lt_of_lt_of_eq t.isLt N_1
  show (t.val - 1) % 26 ≠ 25
  omega

theorem before1_2 (c : Dev nD) (t : Fin cfg1.N) (ht : t.val ≠ 0) (d) :
    (dat1 a0 a1 a2 a3 c).before 2 t d = acc2 (blk0 a0) (blk1 a1) (t.val - 1) (Nat.lt_of_le_of_lt (Nat.sub_le _ _) t.isLt) :=
  (dat1 a0 a1 a2 a3 c).before_out_kept 2 rfl t ht (Bool.eq_false_iff.mpr fun e => notFlush t ht _ ((flush1_2 _).mp e)) live1_2 (fun _ _ => rfl) d
theorem before1_3 (c : Dev nD) (t : Fin cfg1.N) (ht : t.val ≠ 0) (d) :
    (dat1 a0 a1 a2 a3 c).before 3 t d = acc3 (blk0 a0) (t.val - 1) (Nat.lt_of_le_of_lt (Nat.sub_le _ _) t.isLt) :=
  (dat1 a0 a1 a2 a3 c).before_out_kept 3 rfl t ht (Bool.eq_false_iff.mpr fun e => notFlush t ht _ ((flush1_3 _).mp e)) live1_3 (fun _ _ => rfl) d

/-- Which points take which branch. -/
theorem point_first : ∀ t : Fin cfg1.N, k1_cond1 (grid1.coords t) = 1#1 ↔ t.val = 0 :=
  (by decide +kernel : ∀ t : Fin grid1.N, k1_cond1 (grid1.coords t) = 1#1 ↔ t.val = 0)
theorem point_later : ∀ t : Fin cfg1.N, k1_cond2 (grid1.coords t) = 1#1 ↔ t.val ≠ 0 :=
  (by decide +kernel : ∀ t : Fin grid1.N, k1_cond2 (grid1.coords t) = 1#1 ↔ t.val ≠ 0)

theorem acc2_step (x : Fin cfg1.N → Vec F S1x1x2000 .i32) (y : Fin cfg1.N → Vec F S2000x128 .f32) (t : Fin cfg1.N) (ht : t.val ≠ 0) :
    acc2 x y t.val t.isLt = k1_pay4 (x t) (y t) (acc2 x y (t.val - 1) (Nat.lt_of_le_of_lt (Nat.sub_le _ _) t.isLt)) := by
  obtain ⟨n, h⟩ := t
  obtain _ | n := n
  · exact absurd rfl ht
  rfl
theorem acc3_step (x : Fin cfg1.N → Vec F S1x1x2000 .i32) (t : Fin cfg1.N) (ht : t.val ≠ 0) :
    acc3 x t.val t.isLt = k1_pay5 (x t) (acc3 x (t.val - 1) (Nat.lt_of_le_of_lt (Nat.sub_le _ _) t.isLt)) := by
  obtain ⟨n, h⟩ := t
  obtain _ | n := n
  · exact absurd rfl ht
  rfl
theorem acc2_zero (x : Fin cfg1.N → Vec F S1x1x2000 .i32) (y : Fin cfg1.N → Vec F S2000x128 .f32) (t : Fin cfg1.N) (ht : t.val = 0) :
    acc2 x y t.val t.isLt = k1_pay2 (x t) (y t) := by
  obtain ⟨n, h⟩ := t
  obtain rfl : n = 0 := ht
  rfl
theorem acc3_zero (x : Fin cfg1.N → Vec F S1x1x2000 .i32) (t : Fin cfg1.N) (ht : t.val = 0) :
    acc3 x t.val t.isLt = k1_pay3 (x t) := by
  obtain ⟨n, h⟩ := t
  obtain rfl : n = 0 := ht
  rfl

/-- The body at every point, as the region asks it. -/
theorem body1 (c : Dev nD) : BodyObligation (dat1 a0 a1 a2 a3 c) (defs₀ (F := F)) 𝒱₀ none Set.univ := fun t => by
  rw [bigSep_W1, bigSep_W1]
  rw [live1_2]
  show iprop((dat1 a0 a1 a2 a3 c).Φ t.castSucc ∗ (dat1 a0 a1 a2 a3 c).owesAt none t.castSucc
      ∗ (∃ d, owns (c : Thread nD τ) (st1_0 t) fullShare ((dat1 a0 a1 a2 a3 c).before 0 t d))
      ∗ (∃ d, owns (c : Thread nD τ) (st1_1 t) fullShare ((dat1 a0 a1 a2 a3 c).before 1 t d))
      ∗ (∃ d, owns (c : Thread nD τ) (st1_2 t) fullShare ((dat1 a0 a1 a2 a3 c).before 2 t d))
      ∗ (∃ d, owns (c : Thread nD τ) (st1_3 t) fullShare ((dat1 a0 a1 a2 a3 c).before 3 t d)))
    ⊢ wp frame (wpE (defs₀ (F := F)) 𝒱₀ c none) Set.univ (bodyAt1 t) fun _ =>
      iprop((dat1 a0 a1 a2 a3 c).Φ t.castSucc ∗ (dat1 a0 a1 a2 a3 c).owesAt none t.castSucc
      ∗ owns (c : Thread nD τ) (st1_0 t) fullShare (blk0 a0 t)
      ∗ owns (c : Thread nD τ) (st1_1 t) fullShare (blk1 a1 t)
      ∗ owns (c : Thread nD τ) (st1_2 t) fullShare (acc2 (blk0 a0) (blk1 a1) t.val t.isLt)
      ∗ owns (c : Thread nD τ) (st1_3 t) fullShare (acc3 (blk0 a0) t.val t.isLt))
  simp only [owns_eq c (st1_0 t) (hstage1_0 ((cfg1.slots t 0).cast nbuf1_0)), owns_eq c (st1_1 t) (hstage1_1 ((cfg1.slots t 1).cast nbuf1_1)),
    owns_eq c (st1_2 t) (hstage1_2 ((cfg1.slots t 2).cast nbuf1_2)), owns_eq c (st1_3 t) (hstage1_3 ((cfg1.slots t 3).cast nbuf1_3))]
  by_cases ht : t.val = 0
  · rw [acc2_zero _ _ t ht, acc3_zero _ t ht]
    iintro ⟨HΦ, HO, ⟨%d0, %f0, %h0, H0⟩, ⟨%d1, %f1, %h1, H1⟩, ⟨%d2, %f2, -, H2⟩, ⟨%d3, %f3, -, H3⟩⟩
    rw [before1_0] at h0
    rw [before1_1] at h1
    iapply (run1_first c (grid1.coords t) ((point_first t).mpr ht) (fun e => (point_later t).mp e ht) _ _ _ _ _ _ _ _ f0 f1 f2 f3 _)
    isplitl [H0]; · iexact H0
    isplitl [H1]; · iexact H1
    isplitl [H2]; · iexact H2
    isplitl [H3]; · iexact H3
    iintro %g2 %g3 ⟨H2, H3, %hg, H0, H1⟩
    rw [h0, h1] at hg
    isplitl [HΦ]; · iexact HΦ
    isplitl [HO]; · iexact HO
    isplitl [H0]; · iexists f0; isplitr; · ipureintro; exact h0
                    iexact H0
    isplitl [H1]; · iexists f1; isplitr; · ipureintro; exact h1
                    iexact H1
    isplitl [H2]; · iexists g2; isplitr; · ipureintro; exact hg.1
                    iexact H2
    iexists g3; isplitr; · ipureintro; exact hg.2
    iexact H3
  · rw [acc2_step _ _ t ht, acc3_step _ t ht]
    iintro ⟨HΦ, HO, ⟨%d0, %f0, %h0, H0⟩, ⟨%d1, %f1, %h1, H1⟩, ⟨%d2, %f2, %h2, H2⟩, ⟨%d3, %f3, %h3, H3⟩⟩
    rw [before1_0] at h0
    rw [before1_1] at h1
    rw [before1_2 a0 a1 a2 a3 c t ht] at h2
    rw [before1_3 a0 a1 a2 a3 c t ht] at h3
    iapply (run1_later c (grid1.coords t) (fun e => ht ((point_first t).mp e)) ((point_later t).mpr ht) _ _ _ _ _ _ _ _ f0 f1 f2 f3 _)
    isplitl [H0]; · iexact H0
    isplitl [H1]; · iexact H1
    isplitl [H2]; · iexact H2
    isplitl [H3]; · iexact H3
    iintro %g2 %g3 ⟨H2, H3, %hg, H0, H1⟩
    rw [h0, h1, h2, h3] at hg
    isplitl [HΦ]; · iexact HΦ
    isplitl [HO]; · iexact HO
    isplitl [H0]; · iexists f0; isplitr; · ipureintro; exact h0
                    iexact H0
    isplitl [H1]; · iexists f1; isplitr; · ipureintro; exact h1
                    iexact H1
    isplitl [H2]; · iexists g2; isplitr; · ipureintro; exact hg.1
                    iexact H2
    iexists g3; isplitr; · ipureintro; exact hg.2
    iexact H3

end Data

/-- The pipelines read no tables. -/
abbrev adm : (p : Fin 2) → (pcfgs (F := F) p).Adm := fun p => (cfgs p).toPCfg_adm

/-- Proof data for a pipeline the region at hand doesn't run: anything. -/
def junkDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

/-- The core owes nothing, and what it waited on so far lies below the call's stage. -/
def owe0 (c : Dev nD) : sProp 𝕄 := iprop(∃ W : Waits sig (HIx 1), ⌜(↑W : Set (SemLoc sig × HIx 1)) ⊆ recd (F := F) c⌝ ∗ owes (c : Thread nD τ) (0 : CellTallies nD τ sig (HIx 1)) W)

/-- The pipelines' waits lie at level 0. -/
theorem bound_sub (c : Dev nD) (cfg : Cfg sig Λ₀) {W : Set (SemLoc sig × HIx 1)} (h : W ⊆ recd (F := F) c ∪ cfg.waitPairs none) : W ⊆ recd (F := F) c := by
  intro p hp
  rcases h hp with h | ⟨w, s, rfl⟩
  · exact h
  · exact Nat.zero_le _

section Reg

variable (a0 : main_v2.ty.Contents (Elt F)) (a1 : main_v0.ty.Contents (Elt F)) (a2 : main_v4_0.ty.Contents (Elt F)) (a3 : main_v4_1.ty.Contents (Elt F))

/-- The family of proof data of the block kernel's region. -/
def pdats1 : (p : Fin 2) → (c : Dev nD) → Dat τ (Elt F) (HIx 1) ℕ UU ℕ (Pipeline.pin (pcfgs (F := F)) adm p) c
  | ⟨0, _⟩ => fun c => dat1 a0 a1 a2 a3 c
  | ⟨1, _⟩ => fun c => junkDat c

/-- The last point. -/
abbrev tEnd : Fin cfg1.N := ⟨25, by show 25 < grid1.N; rw [N_1]; omega⟩

/-- What the region leaves in the two results. -/
def fin2 : main_v4_0.ty.Contents (Elt F) := acc2 (blk0 a0) (blk1 a1) 25 tEnd.isLt
def fin3 : main_v4_1.ty.Contents (Elt F) := acc3 (blk0 a0) 25 tEnd.isLt

theorem arr1_2 (c : Dev nD) : (dat1 a0 a1 a2 a3 c).arrAt 2 cfg1.N = fin2 a0 a1 := by
  refine (dat1 a0 a1 a2 a3 c).arrAt_eq_of_after_last 2 tEnd (by decide +kernel) _ (fun j => ?_)
  rfl
theorem arr1_3 (c : Dev nD) : (dat1 a0 a1 a2 a3 c).arrAt 3 cfg1.N = fin3 a0 := by
  refine (dat1 a0 a1 a2 a3 c).arrAt_eq_of_after_last 3 tEnd (by decide +kernel) _ (fun j => ?_)
  rfl

/-- A TensorCore buffer held whole at `f`. -/
abbrev bt (c : Dev nD) (b : Ref sig .tc) (f : Buf (Elt F) ((c : Thread nD τ).loc b)) : sProp 𝕄 := ((c : Thread nD τ).loc b) ↦{fullShare} f

set_option backward.isDefEq.respectTransparency.types false in
/-- The region's arrays, one by one. -/
theorem arrays1 (c : Dev nD) (G : (w : Fin cfg1.W) → Buf (Elt F) (((spec1 w).arr).view.loc (c : Thread nD τ))) :
    (pdats1 a0 a1 a2 a3 0 c).arrays G = iprop(bt c main_v2 (G 0) ∗ bt c main_v0 (G 1) ∗ bt c main_v4_0 (G 2) ∗ bt c main_v4_1 (G 3)) := by
  rw [Pipeline.arrays_eq (Pipeline.pin (pcfgs (F := F)) adm) (pdats1 a0 a1 a2 a3) 0 c launch1.arr_whole ((pdats1 a0 a1 a2 a3 0 c).share_full fun _ => rfl) G]
  exact bigSep_W1 _

set_option backward.isDefEq.respectTransparency.types false in
/-- The block kernel's region: entered with its four arrays and nothing owed, left with the sums and the counts of the
    last 26 blocks in the two results. -/
def reg1 : Pipeline.RegionSeg (pcfgs (F := F)) adm (pdats1 a0 a1 a2 a3) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body1 a0 a1 a2 a3 c).loose
  hwaits := Pipeline.hwaits_of_owed_zero _ _ _ _ _ _ 0 fun _ _ => rfl
  pre c := iprop((bt c main_v2 a0 ∗ bt c main_v0 a1 ∗ bt c main_v4_0 a2 ∗ bt c main_v4_1 a3) ∗ owe0 c)
  post c := iprop((bt c main_v2 a0 ∗ bt c main_v0 a1 ∗ bt c main_v4_0 (fin2 a0 a1) ∗ bt c main_v4_1 (fin3 a0)) ∗ owe0 c)
  X _ := BI.emp
  Y _ := BI.emp
  Z _ := BI.emp
  hentry c := by
    rw [Pipeline.ownSems0_none, arrays1]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold owe0
      icases HO with ⟨%W, %hW, HO⟩; iexists W; isplitr; · ipureintro; exact fun _ h => Or.inl (hW h)
      iexact HO
    isplitr; · iempintro
    iempintro
  hin c := by
    rw [show (pdats1 a0 a1 a2 a3 0 c).Φ 0 = (dat1 a0 a1 a2 a3 c).Φ 0 from rfl,
      show (dat1 a0 a1 a2 a3 c).Φ 0 = Pipeline.scopedRest spec1 c from rfl]
    iintro ⟨-, -, Hr⟩; iexact Hr
  hout c := by
    rw [Pipeline.ownSems0_none, show (pdats1 a0 a1 a2 a3 0 c).Φ (Fin.last _) = (dat1 a0 a1 a2 a3 c).Φ 0 from rfl,
      show (dat1 a0 a1 a2 a3 c).Φ 0 = Pipeline.scopedRest spec1 c from rfl]
    iintro Hr
    isplitr; · iempintro
    isplitr; · iempintro
    iexact Hr
  hexit c := by
    rw [arrays1]
    rw [show (pdats1 a0 a1 a2 a3 0 c).arrAt 0 (Pipeline.pin (pcfgs (F := F)) adm 0).N = a0 from (dat1 a0 a1 a2 a3 c).arrAt_in 0 rfl _,
      show (pdats1 a0 a1 a2 a3 0 c).arrAt 1 (Pipeline.pin (pcfgs (F := F)) adm 0).N = a1 from (dat1 a0 a1 a2 a3 c).arrAt_in 1 rfl _,
      show (pdats1 a0 a1 a2 a3 0 c).arrAt 2 (Pipeline.pin (pcfgs (F := F)) adm 0).N = fin2 a0 a1 from arr1_2 a0 a1 a2 a3 c,
      show (pdats1 a0 a1 a2 a3 0 c).arrAt 3 (Pipeline.pin (pcfgs (F := F)) adm 0).N = fin3 a0 from arr1_3 a0 a1 a2 a3 c]
    iintro ⟨Ha, HO, -, -⟩
    imodintro
    isplitl [Ha]; · iexact Ha
    icases HO with ⟨%W, %hW, HO⟩
    unfold owe0
    iexists W; isplitr; · ipureintro; exact bound_sub c cfg1 hW
    iexact HO

end Reg

end Cert.Proof.Seg
-- ==== Proof.Region2.lean ====
/-
  The last kernel's region: one point over whole arrays; the 32 tiles' sums and the block kernel's added, and divided by
  the counts.
-/
module

public import proofs.«01_k».proof.Proof.Region1

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Pipeline (Dat Cfg Window BodyObligation)

variable {F : FTy → Type} [FloatOps F] [∀ e, Nonempty (Elt F e)]

local notation "𝕄" => MT nD τ sig (HIx 1) (Elt F) ℕ UU ℕ

section Data

variable (a0 : main_v5.ty.Contents (Elt F)) (a1 : main_v6.ty.Contents (Elt F)) (a2 : main_v4_0.ty.Contents (Elt F)) (a3 : main_v4_1.ty.Contents (Elt F))
  (a4 : main_v7.ty.Contents (Elt F))

/-- The region's proof data: the result's staging buffer ends at the quotient. -/
def dat2 (c : Dev nD) : Dat τ (Elt F) (HIx 1) ℕ UU ℕ cfg2 c where
  A w := match w with
    | ⟨0, _⟩ => a0
    | ⟨1, _⟩ => a1
    | ⟨2, _⟩ => a2
    | ⟨3, _⟩ => a3
    | ⟨4, _⟩ => a4
  after w t := match w with
    | ⟨0, _⟩ => a0
    | ⟨1, _⟩ => a1
    | ⟨2, _⟩ => a2
    | ⟨3, _⟩ => a3
    | ⟨4, _⟩ => k2_pay1 a0 a2 a1 a3
  Φ _ := Pipeline.scopedRest (Ix := HIx 1) (Name := ℕ) (U := UU) (Lvl := ℕ) (Val := Elt F) spec2 c
  q _ := fullShare
  owed _ := 0
  recorded _ := recd (F := F) c

theorem z2_0 : ∀ a, (cfg2.win 0).index t2_0 a = 0 := by decide +kernel
theorem z2_1 : ∀ a, (cfg2.win 1).index t2_0 a = 0 := by decide +kernel
theorem z2_2 : ∀ a, (cfg2.win 2).index t2_0 a = 0 := by decide +kernel
theorem z2_3 : ∀ a, (cfg2.win 3).index t2_0 a = 0 := by decide +kernel
theorem before2_0 (c : Dev nD) (d) : (dat2 a0 a1 a2 a3 a4 c).before 0 t2_0 d = a0 := by
  unfold Dat.before; rw [if_pos (fetch2_0 t2_0)]
  funext j
  exact congrArg a0 (funext fun a => Fin.ext ((cfg2.win 0).rect_emb_val_of_index_zero t2_0 a (z2_0 a) j))
theorem before2_1 (c : Dev nD) (d) : (dat2 a0 a1 a2 a3 a4 c).before 1 t2_0 d = a1 := by
  unfold Dat.before; rw [if_pos (fetch2_1 t2_0)]
  funext j
  exact congrArg a1 (funext fun a => Fin.ext ((cfg2.win 1).rect_emb_val_of_index_zero t2_0 a (z2_1 a) j))
theorem before2_2 (c : Dev nD) (d) : (dat2 a0 a1 a2 a3 a4 c).before 2 t2_0 d = a2 := by
  unfold Dat.before; rw [if_pos (fetch2_2 t2_0)]
  funext j
  exact congrArg a2 (funext fun a => Fin.ext ((cfg2.win 2).rect_emb_val_of_index_zero t2_0 a (z2_2 a) j))
theorem before2_3 (c : Dev nD) (d) : (dat2 a0 a1 a2 a3 a4 c).before 3 t2_0 d = a3 := by
  unfold Dat.before; rw [if_pos (fetch2_3 t2_0)]
  funext j
  exact congrArg a3 (funext fun a => Fin.ext ((cfg2.win 3).rect_emb_val_of_index_zero t2_0 a (z2_3 a) j))

/-- The body at its one point. -/
theorem body2 (c : Dev nD) : BodyObligation (dat2 a0 a1 a2 a3 a4 c) (defs₀ (F := F)) 𝒱₀ none Set.univ := fun t => by
  obtain rfl := fin_N2 t
  rw [bigSep_W2, bigSep_W2]
  show iprop((dat2 a0 a1 a2 a3 a4 c).Φ t2_0.castSucc ∗ (dat2 a0 a1 a2 a3 a4 c).owesAt none t2_0.castSucc
      ∗ (∃ d, owns (c : Thread nD τ) (st2_0 t2_0) fullShare ((dat2 a0 a1 a2 a3 a4 c).before 0 t2_0 d))
      ∗ (∃ d, owns (c : Thread nD τ) (st2_1 t2_0) fullShare ((dat2 a0 a1 a2 a3 a4 c).before 1 t2_0 d))
      ∗ (∃ d, owns (c : Thread nD τ) (st2_2 t2_0) fullShare ((dat2 a0 a1 a2 a3 a4 c).before 2 t2_0 d))
      ∗ (∃ d, owns (c : Thread nD τ) (st2_3 t2_0) fullShare ((dat2 a0 a1 a2 a3 a4 c).before 3 t2_0 d))
      ∗ (∃ d, owns (c : Thread nD τ) (st2_4 t2_0) fullShare ((dat2 a0 a1 a2 a3 a4 c).before 4 t2_0 d)))
    ⊢ wp frame (wpE (defs₀ (F := F)) 𝒱₀ c none) Set.univ (bodyAt2 t2_0) fun _ =>
      iprop((dat2 a0 a1 a2 a3 a4 c).Φ t2_0.castSucc ∗ (dat2 a0 a1 a2 a3 a4 c).owesAt none t2_0.castSucc
      ∗ owns (c : Thread nD τ) (st2_0 t2_0) fullShare a0
      ∗ owns (c : Thread nD τ) (st2_1 t2_0) fullShare a1
      ∗ owns (c : Thread nD τ) (st2_2 t2_0) fullShare a2
      ∗ owns (c : Thread nD τ) (st2_3 t2_0) fullShare a3
      ∗ owns (c : Thread nD τ) (st2_4 t2_0) fullShare (k2_pay1 a0 a2 a1 a3))
  simp only [owns_eq c (st2_0 t2_0) (hstage2_0 0), owns_eq c (st2_1 t2_0) (hstage2_1 0), owns_eq c (st2_2 t2_0) (hstage2_2 0),
    owns_eq c (st2_3 t2_0) (hstage2_3 0), owns_eq c (st2_4 t2_0) (hstage2_4 0)]
  iintro ⟨HΦ, HO, ⟨%d0, %f0, %h0, H0⟩, ⟨%d1, %f1, %h1, H1⟩, ⟨%d2, %f2, %h2, H2⟩, ⟨%d3, %f3, %h3, H3⟩, ⟨%d4, %f4, -, H4⟩⟩
  rw [before2_0] at h0
  rw [before2_1] at h1
  rw [before2_2] at h2
  rw [before2_3] at h3
  iapply (run2 c _ _ _ _ _ _ _ _ _ _ f0 f1 f2 f3 f4 _)
  isplitl [H0]; · iexact H0
  isplitl [H1]; · iexact H1
  isplitl [H2]; · iexact H2
  isplitl [H3]; · iexact H3
  isplitl [H4]; · iexact H4
  iintro %g ⟨H4, %hg, H0, H1, H2, H3⟩
  rw [h0, h1, h2, h3] at hg
  isplitl [HΦ]; · iexact HΦ
  isplitl [HO]; · iexact HO
  isplitl [H0]; · iexists f0; isplitr; · ipureintro; exact h0
                  iexact H0
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  iexists g; isplitr; · ipureintro; exact hg
  iexact H4

/-- The family of proof data of the last kernel's region. -/
def pdats2 : (p : Fin 2) → (c : Dev nD) → Dat τ (Elt F) (HIx 1) ℕ UU ℕ (Pipeline.pin (pcfgs (F := F)) adm p) c
  | ⟨0, _⟩ => fun c => junkDat c
  | ⟨1, _⟩ => fun c => dat2 a0 a1 a2 a3 a4 c

theorem arr2_4 (c : Dev nD) : (dat2 a0 a1 a2 a3 a4 c).arrAt 4 cfg2.N = k2_pay1 a0 a2 a1 a3 := by
  refine (dat2 a0 a1 a2 a3 a4 c).arrAt_eq_of_after_last 4 t2_0 (by decide +kernel) _ (fun j => ?_)
  rfl

set_option backward.isDefEq.respectTransparency.types false in
/-- The region's arrays, one by one. -/
theorem arrays2 (c : Dev nD) (G : (w : Fin cfg2.W) → Buf (Elt F) (((spec2 w).arr).view.loc (c : Thread nD τ))) :
    (pdats2 a0 a1 a2 a3 a4 1 c).arrays G
      = iprop(bt c main_v5 (G 0) ∗ bt c main_v6 (G 1) ∗ bt c main_v4_0 (G 2) ∗ bt c main_v4_1 (G 3) ∗ bt c main_v7 (G 4)) := by
  rw [Pipeline.arrays_eq (Pipeline.pin (pcfgs (F := F)) adm) (pdats2 a0 a1 a2 a3 a4) 1 c launch2.arr_whole ((pdats2 a0 a1 a2 a3 a4 1 c).share_full fun _ => rfl) G]
  exact bigSep_W2 _

set_option backward.isDefEq.respectTransparency.types false in
/-- The last kernel's region: entered with its five arrays and nothing owed, left with the quotient in the result. -/
def reg2 : Pipeline.RegionSeg (pcfgs (F := F)) adm (pdats2 a0 a1 a2 a3 a4) none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 a0 a1 a2 a3 a4 c).loose
  hwaits := Pipeline.hwaits_of_owed_zero _ _ _ _ _ _ 1 fun _ _ => rfl
  pre c := iprop((bt c main_v5 a0 ∗ bt c main_v6 a1 ∗ bt c main_v4_0 a2 ∗ bt c main_v4_1 a3 ∗ bt c main_v7 a4) ∗ owe0 c)
  post c := iprop((bt c main_v5 a0 ∗ bt c main_v6 a1 ∗ bt c main_v4_0 a2 ∗ bt c main_v4_1 a3 ∗ bt c main_v7 (k2_pay1 a0 a2 a1 a3)) ∗ owe0 c)
  X _ := BI.emp
  Y _ := BI.emp
  Z _ := BI.emp
  hentry c := by
    rw [Pipeline.ownSems0_none, arrays2]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold owe0
      icases HO with ⟨%W, %hW, HO⟩; iexists W; isplitr; · ipureintro; exact fun _ h => Or.inl (hW h)
      iexact HO
    isplitr; · iempintro
    iempintro
  hin c := by
    rw [show (pdats2 a0 a1 a2 a3 a4 1 c).Φ 0 = (dat2 a0 a1 a2 a3 a4 c).Φ 0 from rfl,
      show (dat2 a0 a1 a2 a3 a4 c).Φ 0 = Pipeline.scopedRest spec2 c from rfl]
    iintro ⟨-, -, Hr⟩; iexact Hr
  hout c := by
    rw [Pipeline.ownSems0_none, show (pdats2 a0 a1 a2 a3 a4 1 c).Φ (Fin.last _) = (dat2 a0 a1 a2 a3 a4 c).Φ 0 from rfl,
      show (dat2 a0 a1 a2 a3 a4 c).Φ 0 = Pipeline.scopedRest spec2 c from rfl]
    iintro Hr
    isplitr; · iempintro
    isplitr; · iempintro
    iexact Hr
  hexit c := by
    rw [arrays2]
    rw [show (pdats2 a0 a1 a2 a3 a4 1 c).arrAt 0 (Pipeline.pin (pcfgs (F := F)) adm 1).N = a0 from (dat2 a0 a1 a2 a3 a4 c).arrAt_in 0 rfl _,
      show (pdats2 a0 a1 a2 a3 a4 1 c).arrAt 1 (Pipeline.pin (pcfgs (F := F)) adm 1).N = a1 from (dat2 a0 a1 a2 a3 a4 c).arrAt_in 1 rfl _,
      show (pdats2 a0 a1 a2 a3 a4 1 c).arrAt 2 (Pipeline.pin (pcfgs (F := F)) adm 1).N = a2 from (dat2 a0 a1 a2 a3 a4 c).arrAt_in 2 rfl _,
      show (pdats2 a0 a1 a2 a3 a4 1 c).arrAt 3 (Pipeline.pin (pcfgs (F := F)) adm 1).N = a3 from (dat2 a0 a1 a2 a3 a4 c).arrAt_in 3 rfl _,
      show (pdats2 a0 a1 a2 a3 a4 1 c).arrAt 4 (Pipeline.pin (pcfgs (F := F)) adm 1).N = k2_pay1 a0 a2 a1 a3 from arr2_4 a0 a1 a2 a3 a4 c]
    iintro ⟨Ha, HO, -, -⟩
    imodintro
    isplitl [Ha]; · iexact Ha
    icases HO with ⟨%W, %hW, HO⟩
    unfold owe0
    iexists W; isplitr; · ipureintro; exact bound_sub c cfg2 hW
    iexact HO

end Data

end Cert.Proof.Seg
-- ==== Proof.Vals.lean ====
/-
  What a tile computes, as functions of indices. A one-dimensional array is read as a function of a natural number
  (`vec1` back into an array). `rowSt`, `blkSt` and `tileSt` give the sums and counts a tile holds after
  so many rows and blocks, in the order of the kernel's own additions.
-/
module

public import proofs.«01_k».proof.Proof.Setup
public import Idealize.ShloMosaic.Lib.VecWindow
public import Idealize.ShloMosaic.Lib.Pointwise

@[expose] public section

noncomputable section

namespace Cert.Proof.Seg

open Cert.KernelIdeal Cert.KernelIdeal.Gen
open Idealize.ShloMosaic

variable {α : Type} {F : FTy → Type}

/-- The array of `n` elements whose element `k` is `g k`. -/
def vec1 {n : Nat} (g : Nat → α) : (⟨1, ![n]⟩ : Shape).Idx → α := fun i => g (i 0).val

/-- Element `k` of an array of `n + 1` elements, `k` taken round the end. -/
def nat1 {n : Nat} (x : (⟨1, ![n + 1]⟩ : Shape).Idx → α) : Nat → α :=
  fun k => x (fun | 0 => ⟨k % (n + 1), Nat.mod_lt _ (Nat.succ_pos _)⟩)

theorem vec1_apply {n : Nat} (g : Nat → α) (i : (⟨1, ![n]⟩ : Shape).Idx) : vec1 (n := n) g i = g (i 0).val := rfl

theorem vec1_nat1 {n : Nat} (x : (⟨1, ![n + 1]⟩ : Shape).Idx → α) : vec1 (nat1 x) = x := by
  funext i
  rw [vec1_apply]
  unfold nat1
  congr 1
  funext a
  obtain rfl : a = 0 := Subsingleton.elim _ _
  exact Fin.ext (Nat.mod_eq_of_lt (i 0).isLt)

/-- `g` with `w` from `o` on over 16 elements. -/
def put16 (g : Nat → α) (o : Nat) (w : Nat → α) : Nat → α := fun k => if o ≤ k ∧ k < o + 16 then w (k - o) else g k

/-- A window of 16 elements. -/
theorem window16 {n : Nat} (g : Nat → α) (o : Nat) (inb : ∀ a, (![o] : Fin 1 → Nat) a + S16.size a ≤ (⟨1, ![n]⟩ : Shape).size a) :
    VecWindow.window (s := ⟨1, ![n]⟩) (vec1 g) ![o] S16.size inb = (vec1 (n := 16) fun x => g (o + x)) := by
  funext y
  show g (o + 1 * (y 0).val) = g (o + (y 0).val)
  rw [one_mul]

/-- 16 elements put. -/
theorem put16_eq {n : Nat} (g w : Nat → α) (o : Nat) :
    VecWindow.put (s := ⟨1, ![n]⟩) (vec1 g) ![o] S16.size (vec1 (n := 16) w) = vec1 (put16 g o w) := by
  funext y
  unfold VecWindow.put put16
  by_cases h : o ≤ (y 0).val ∧ (y 0).val < o + 16
  · have h' : ∀ a : Fin 1, (![o] : Fin 1 → Nat) a ≤ (y a).val ∧ (y a).val < (![o] : Fin 1 → Nat) a + S16.size a := fun a => by
      obtain rfl : a = 0 := Subsingleton.elim _ _
      exact h
    rw [dif_pos h']
    show w ((y 0).val - o) = vec1 _ y
    rw [vec1_apply, if_pos h]
  · have h' : ¬∀ a : Fin 1, (![o] : Fin 1 → Nat) a ≤ (y a).val ∧ (y a).val < (![o] : Fin 1 → Nat) a + S16.size a := fun hh => h (hh 0)
    rw [dif_neg h', vec1_apply, vec1_apply, if_neg h]

/-! ## A tile's sums -/

variable [FloatOps F]

/-- Addition of two numbers, the kernel's. -/
def add2 (a b : F .f32) : F .f32 := FloatOps.addf a b

/-- Zero, as the kernel writes it. -/
def zeroF : F .f32 := Scalar.ofBits .f32 0x00000000#32

/-- The sum of the first `k` rows of a block `g` of rows of 128 numbers, column `x`. -/
def rowsN (g : Nat → F .f32) (k x : Nat) : F .f32 := Nat.rec zeroF (fun r s => add2 s (g (128 * r + x))) k

theorem rowsN_zero (g : Nat → F .f32) (x : Nat) : rowsN g 0 x = zeroF := rfl
theorem rowsN_succ (g : Nat → F .f32) (k x : Nat) : rowsN g (k + 1) x = add2 (rowsN g k x) (g (128 * k + x)) := rfl

/-- `a` with `w` added from `o` on over `n` elements. -/
def addAt (n : Nat) (a : Nat → F .f32) (o : Nat) (w : Nat → F .f32) : Nat → F .f32 :=
  fun p => if o ≤ p ∧ p < o + n then add2 (a p) (w (p - o)) else a p

theorem addAt_zero (a : Nat → F .f32) (o : Nat) (w : Nat → F .f32) : addAt 0 a o w = a := by
  funext p; unfold addAt; rw [if_neg (by omega)]

/-- Sixteen more elements added. -/
theorem put16_addAt (a : Nat → F .f32) (o n : Nat) (w : Nat → F .f32) :
    put16 (addAt n a o w) (o + n) (fun x => add2 (a (o + n + x)) (w (n + x))) = addAt (n + 16) a o w := by
  funext p
  unfold put16 addAt
  by_cases h : o + n ≤ p ∧ p < o + n + 16
  · rw [if_pos h, if_pos (by omega)]
    show add2 (a (o + n + (p - (o + n)))) (w (n + (p - (o + n)))) = _
    rw [show o + n + (p - (o + n)) = p by omega, show n + (p - (o + n)) = p - o by omega]
  · rw [if_neg h]
    by_cases h' : o ≤ p ∧ p < o + n
    · rw [if_pos h', if_pos (by omega)]
    · rw [if_neg h', if_neg (by omega)]

/-- Elements past those added to are as they were. -/
theorem addAt_past (a : Nat → F .f32) (o n : Nat) (w : Nat → F .f32) (x : Nat) : addAt n a o w (o + n + x) = a (o + n + x) := by
  unfold addAt; rw [if_neg (by omega)]

/-- The counter's addend: `c` at the node's own element of its group of sixteen, zero at the others. -/
def cntW (id : Nat) (c : F .f32) (x : Nat) : F .f32 := if x + 16 * (id / 16) = id then c else zeroF

/-- 125, as the kernel writes it. -/
def c125 : F .f32 := Scalar.ofBits .f32 0x42FA0000#32
/-- 1, as the kernel writes it. -/
def c1 : F .f32 := Scalar.ofBits .f32 0x3F800000#32

/-- Sums and counts after `k` rows of a block added one by one: row `r`'s segment is `id r`. -/
def rowSt (g : Nat → F .f32) (id : Nat → Nat) (a c : Nat → F .f32) : Nat → (Nat → F .f32) × (Nat → F .f32)
  | 0 => (a, c)
  | k + 1 =>
    (addAt 128 (rowSt g id a c k).1 (128 * id k) (fun x => g (128 * k + x)),
     addAt 16 (rowSt g id a c k).2 (16 * (id k / 16)) (cntW (id k) c1))

/-- Sums and counts after a block of 125 rows: at once where its first and last segments are the same. -/
def blkSt (g : Nat → F .f32) (id : Nat → Nat) (s : (Nat → F .f32) × (Nat → F .f32)) : (Nat → F .f32) × (Nat → F .f32) :=
  if id 0 = id 124 then
    (addAt 128 s.1 (128 * id 0) (rowsN g 125), addAt 16 s.2 (16 * (id 0 / 16)) (cntW (id 0) c125))
  else rowSt g id s.1 s.2 125

/-- Sums and counts of tile `w` after `b` blocks, of the flat features `fe` and the segments `ids`. -/
def tileSt (fe : Nat → F .f32) (ids : Nat → Nat) (w : Nat) : Nat → (Nat → F .f32) × (Nat → F .f32)
  | 0 => (fun _ => zeroF, fun _ => zeroF)
  | b + 1 => blkSt (fun x => fe (192000 * w + 16000 * b + x)) (fun r => ids (1500 * w + 125 * b + r)) (tileSt fe ids w b)

end Cert.Proof.Seg
-- ==== Proof.Offsets.lean ====
/-
  The offsets the kernel computes, in closed form: where a tile's ids and their blocks lie, and where a segment's sums
  and its count lie; and the side conditions the kernel asks of a segment below 64.
-/
module

public import proofs.«01_k».proof.Proof.Vals

@[expose] public section

noncomputable section

namespace Cert.Proof.Seg

open Cert.KernelIdeal Cert.KernelIdeal.Gen
open Idealize.ShloMosaic

/-- The first id a tile copies: its own first one, rounded down to a multiple of eight. -/
theorem off1_eq : ∀ i : grid0.Coords, k0_off1 i = ![1500 * wid i - 1500 * wid i % 8] := by decide +kernel
/-- The first id of an even block, within the tile's copy; -/
theorem off5_eq : ∀ (i : grid0.Coords) (t : Fin k0_t2_loop.trips), k0_off5 i t = ![1500 * wid i % 8 + 250 * t.val] := by decide +kernel
/-- the sixteen ids that end with its last one; -/
theorem off6_eq : ∀ (i : grid0.Coords) (t : Fin k0_t2_loop.trips), k0_off6 i t = ![1500 * wid i % 8 + 250 * t.val + 109] := by decide +kernel
/-- the same of an odd block. -/
theorem off16_eq : ∀ (i : grid0.Coords) (t : Fin k0_t2_loop.trips), k0_off16 i t = ![1500 * wid i % 8 + 250 * t.val + 125] := by decide +kernel
theorem off17_eq : ∀ (i : grid0.Coords) (t : Fin k0_t2_loop.trips), k0_off17 i t = ![1500 * wid i % 8 + 250 * t.val + 125 + 109] := by decide +kernel

/-- The features of the block two on from trip `t`'s even one, and from its odd one; -/
theorem off14_at : ∀ (i : grid0.Coords) (t : Fin k0_t2_loop.trips), k0_off14 i t = ![192000 * wid i + 32000 * (t.val + 1)] := by decide +kernel
theorem off25_at : ∀ (i : grid0.Coords) (t : Fin k0_t2_loop.trips), k0_off25 i t = ![192000 * wid i + 16000 + 32000 * (t.val + 1)] := by decide +kernel
/-- of a tile's first two blocks; -/
theorem off2_at : ∀ (i : grid0.Coords) (r : Fin 2), k0_off2 i (BitVec.ofNat 32 (125 * r.val)) = ![192000 * wid i + 16000 * r.val] := by decide +kernel
/-- and where a tile's sums and counts go. -/
theorem off26_at : ∀ i : grid0.Coords, k0_off26 i = ![8192 * wid i] := by decide +kernel
theorem off27_at : ∀ i : grid0.Coords, k0_off27 i = ![64 * wid i] := by decide +kernel

theorem add_iv_toNat (x : BitVec 32) (k n : Nat) (hx : x.toNat = n) (hn : n < 2000) (hk : k < 2000) :
    (Scalar.indexCast (Scalar.addi x (Scf.iv 0#32 1#32 k))).toNat = n + k := by
  show (x + (0#32 + BitVec.ofNat 32 k * 1#32)).toNat = _
  rw [BitVec.zero_add, BitVec.mul_one, BitVec.toNat_add, BitVec.toNat_ofNat, hx]
  omega

/-- Row `k`'s id of an even block, and of an odd one. -/
theorem off10_eq (i : grid0.Coords) (t : Fin k0_t2_loop.trips) (k : Fin k0_t4_loop.trips) : k0_off10 i t k = ![1500 * wid i % 8 + 250 * t.val + k.val] := by
  have ht : t.val < 6 := t.isLt
  have hk : k.val < 125 := k.isLt
  exact congrArg (fun n : Nat => (![n] : Fin 1 → Nat)) (add_iv_toNat _ k.val _ (congrFun (off5_eq i t) 0) (by omega) (by omega))
theorem off21_eq (i : grid0.Coords) (t : Fin k0_t2_loop.trips) (k : Fin k0_t6_loop.trips) : k0_off21 i t k = ![1500 * wid i % 8 + 250 * t.val + 125 + k.val] := by
  have ht : t.val < 6 := t.isLt
  have hk : k.val < 125 := k.isLt
  exact congrArg (fun n : Nat => (![n] : Fin 1 → Nat)) (add_iv_toNat _ k.val _ (congrFun (off16_eq i t) 0) (by omega) (by omega))

/-- The floored sixteenth, as the kernel computes it of a word. -/
def flr16 (v : BitVec 32) : BitVec 32 :=
  Scalar.select (Scalar.andi (Scalar.cmpi .ne (Scalar.subi (Scalar.extui (Scalar.cmpi .sgt v 0#32)) (Scalar.extui (Scalar.cmpi .slt v 0#32)))
      (Scalar.subi (Scalar.extui (Scalar.cmpi .sgt 16#32 0#32)) (Scalar.extui (Scalar.cmpi .slt 16#32 0#32))))
    (Scalar.cmpi .ne (Scalar.remsi v 16#32) 0#32)) (Scalar.subi (Scalar.divsi v 16#32) 1#32) (Scalar.divsi v 16#32)

theorem flr16_fin : ∀ n : Fin 64, flr16 (BitVec.ofNat 32 n.val) = BitVec.ofNat 32 (n.val / 16) := by decide +kernel
theorem off8_fin : ∀ (n : Fin 64) (r : Fin 8), k0_off8 (BitVec.ofNat 32 n.val) (BitVec.ofNat 32 (16 * r.val)) = ![128 * n.val + 16 * r.val] := by decide +kernel
theorem off9_fin : ∀ n : Fin 64, k0_off9 (BitVec.ofNat 32 n.val) = ![16 * (n.val / 16)] := by decide +kernel

/-- A word below 64 is the word of a number below 64. -/
theorem word_lt {v : BitVec 32} (h : v.toNat < 64) : ∃ n : Fin 64, v = BitVec.ofNat 32 n.val := ⟨⟨v.toNat, h⟩, by simp⟩

theorem flr16_eq {v : BitVec 32} (h : v.toNat < 64) : flr16 v = BitVec.ofNat 32 (v.toNat / 16) := by
  have e := flr16_fin ⟨v.toNat, h⟩
  simpa using e
/-- Where segment `v`'s sums start, sixteen by sixteen. -/
theorem off8_eq {v : BitVec 32} (h : v.toNat < 64) (r : Fin 8) : k0_off8 v (BitVec.ofNat 32 (16 * r.val)) = ![128 * v.toNat + 16 * r.val] := by
  have e := off8_fin ⟨v.toNat, h⟩ r
  simpa using e
/-- The group of sixteen counts segment `v`'s is in. -/
theorem off9_eq {v : BitVec 32} (h : v.toNat < 64) : k0_off9 v = ![16 * (v.toNat / 16)] := by
  have e := off9_fin ⟨v.toNat, h⟩
  simpa using e
theorem off11_eq {v : BitVec 32} (h : v.toNat < 64) (r : Fin 8) : k0_off11 v (BitVec.ofNat 32 (16 * r.val)) = ![128 * v.toNat + 16 * r.val] := off8_eq h r
theorem off19_eq {v : BitVec 32} (h : v.toNat < 64) (r : Fin 8) : k0_off19 v (BitVec.ofNat 32 (16 * r.val)) = ![128 * v.toNat + 16 * r.val] := off8_eq h r
theorem off22_eq {v : BitVec 32} (h : v.toNat < 64) (r : Fin 8) : k0_off22 v (BitVec.ofNat 32 (16 * r.val)) = ![128 * v.toNat + 16 * r.val] := off8_eq h r
theorem off13_eq {v : BitVec 32} (h : v.toNat < 64) : k0_off13 v = ![16 * (v.toNat / 16)] := off9_eq h
theorem off20_eq {v : BitVec 32} (h : v.toNat < 64) : k0_off20 v = ![16 * (v.toNat / 16)] := off9_eq h
theorem off24_eq {v : BitVec 32} (h : v.toNat < 64) : k0_off24 v = ![16 * (v.toNat / 16)] := off9_eq h

theorem inb128 {n : Nat} (h : n < 64) (r : Fin 8) : ∀ a, (![128 * n + 16 * r.val] : Fin 1 → Nat) a + S16.size a ≤ S8192.size a := fun a => by
  obtain rfl : a = 0 := Subsingleton.elim _ _
  show 128 * n + 16 * r.val + 16 ≤ 8192
  have := r.isLt
  omega
theorem inb16 {n : Nat} (h : n < 64) : ∀ a, (![16 * (n / 16)] : Fin 1 → Nat) a + S16.size a ≤ S64.size a := fun a => by
  obtain rfl : a = 0 := Subsingleton.elim _ _
  show 16 * (n / 16) + 16 ≤ 64
  omega

/-- What the kernel checks of a segment holds below 64. -/
theorem chk1_of {v : BitVec 32} (h : v.toNat < 64) (u : BitVec 32) : k0_chk1 v u :=
  ⟨fun _ r => by rw [off8_eq h]; exact inb128 h r, fun _ => by rw [off9_eq h]; exact inb16 h⟩
theorem chk2_of (u u' : BitVec 32) {v : BitVec 32} (h : v.toNat < 64) : k0_chk2 u u' v :=
  ⟨fun _ r => by rw [off11_eq h]; exact inb128 h r, fun _ => by rw [off13_eq h]; exact inb16 h⟩
theorem chk3_of {v : BitVec 32} (h : v.toNat < 64) (u : BitVec 32) : k0_chk3 v u :=
  ⟨fun _ r => by rw [off19_eq h]; exact inb128 h r, fun _ => by rw [off20_eq h]; exact inb16 h⟩
theorem chk4_of (u u' : BitVec 32) {v : BitVec 32} (h : v.toNat < 64) : k0_chk4 u u' v :=
  ⟨fun _ r => by rw [off22_eq h]; exact inb128 h r, fun _ => by rw [off24_eq h]; exact inb16 h⟩

/-- The branch at once is taken where the two words are equal, the other one where they are not. -/
theorem cond1_iff (u v : BitVec 32) : k0_cond1 u v = 1#1 ↔ u = v := by
  show BitVec.ofBool ((BitVec.ofBool (u == v)).setWidth 32 != 0#32) = 1#1 ↔ u = v
  by_cases h : u = v
  · subst h; simp
  · rw [beq_false_of_ne h]; exact iff_of_false (by decide) h
theorem cond2_iff (u v : BitVec 32) : k0_cond2 u v = 1#1 ↔ u ≠ v := by
  show BitVec.ofBool ((BitVec.ofBool (u != v)).setWidth 32 != 0#32) = 1#1 ↔ u ≠ v
  by_cases h : u = v
  · subst h; simp
  · have e : (u != v) = true := bne_iff_ne.2 h
    rw [e]; exact iff_of_true (by decide) h
theorem cond3_iff : ∀ t : Fin k0_t2_loop.trips, k0_cond3 t = 1#1 ↔ t.val < 5 := by decide +kernel
theorem cond6_iff : ∀ t : Fin k0_t2_loop.trips, k0_cond6 t = 1#1 ↔ t.val < 5 := by decide +kernel

theorem cond4_iff (u v : BitVec 32) : k0_cond4 u v = 1#1 ↔ u = v := cond1_iff u v
theorem cond5_iff (u v : BitVec 32) : k0_cond5 u v = 1#1 ↔ u ≠ v := cond2_iff u v

end Cert.Proof.Seg
-- ==== Proof.Steps.lean ====
/-
  Single memory steps of a tile as functions of indices: sixteen elements loaded, stored, or added to, through any
  view of a one-dimensional array.
-/
module

public import proofs.«01_k».proof.Proof.Vals
public import proofs.«01_k».proof.Proof.Offsets

@[expose] public section

noncomputable section

namespace Cert.Proof.Seg

open Cert.KernelIdeal Cert.KernelIdeal.Gen
open Idealize.ShloMosaic

variable {F : FTy → Type}

section Any
variable {α : Type} {Val : EltTy → Type} {κ : Kind} {sp : Space} {n : Nat} {e : EltTy}

/-- Sixteen elements loaded. -/
theorem load16 (v : View sig κ sp ⟨1, ![n]⟩ e) {f : v.ty.Contents Val} {A : Nat → Val e} (hA : v.read Val f = vec1 A) {off : Fin 1 → Nat} {o : Nat}
    (inb : ∀ a, off a + S16.size a ≤ (⟨1, ![n]⟩ : Shape).size a) (h : off = ![o]) :
    v.readAt Val (Rect.unit (s := ⟨1, ![n]⟩) off S16.size inb).toLoadRect f = (vec1 (n := 16) fun x => A (o + x)) := by
  subst h
  rw [View.readAt_unit v f inb rfl inb, hA, window16]

/-- Sixteen elements stored over earlier stores. -/
theorem store16 (v : View sig κ sp ⟨1, ![n]⟩ e) {f : v.ty.Contents Val} {L : List (View.Piece Val ⟨1, ![n]⟩ e)} {A : Nat → Val e} (hA : v.read Val (v.writes Val f L) = vec1 A)
    {off : Fin 1 → Nat} {o : Nat} (inb : ∀ a, off a + S16.size a ≤ (⟨1, ![n]⟩ : Shape).size a) (h : off = ![o])
    {pay : S16.Idx → Val e} {w : Nat → Val e} (hp : pay = vec1 (n := 16) w) :
    v.read Val (v.writes Val f (⟨Rect.unit (s := ⟨1, ![n]⟩) off S16.size inb, pay⟩ :: L)) = vec1 (put16 A o w) := by
  subst h hp
  rw [View.read_writes_cons_put v f inb _ L rfl, hA]
  exact put16_eq A w o

end Any

variable [FloatOps F] {κ : Kind} {sp : Space} {n : Nat}

/-- The kernel's addition of two vectors, the first one loaded. -/
theorem cast_addf_cast (a b : FVec F S16 .f32) (h h' : S16.ShapeCasts S16) : shapeCast S16 (addf (shapeCast S16 a h) b) h' = fun i => add2 (a i) (b i) := by
  rw [shapeCast_id, shapeCast_id]; rfl

theorem cast_addf (a b : FVec F S16 .f32) (h : S16.ShapeCasts S16) : addf (shapeCast S16 a h) b = fun i => add2 (a i) (b i) := by
  rw [shapeCast_id]; rfl

/-- The kernel's addition of two vectors, the second one loaded. -/
theorem addf_cast (a b : FVec F S16 .f32) (h : S16.ShapeCasts S16) : addf a (shapeCast S16 b h) = fun i => add2 (a i) (b i) := by
  rw [shapeCast_id]; rfl

/-- Sixteen more elements stored, what the array held before with `w` added. -/
theorem addStepV (v : View sig κ sp ⟨1, ![n]⟩ .f32) {f : v.ty.Contents (Elt F)} {L : List (View.Piece (Elt F) ⟨1, ![n]⟩ .f32)} {a w : Nat → F .f32} {o m : Nat}
    (hA : v.read (Elt F) (v.writes (Elt F) f L) = vec1 (addAt m a o w)) {off : Fin 1 → Nat} (inb : ∀ a, off a + S16.size a ≤ (⟨1, ![n]⟩ : Shape).size a) (h : off = ![o + m])
    {pay : FVec F S16 .f32} (hp : pay = vec1 (n := 16) fun x => add2 (a (o + m + x)) (w (m + x))) :
    v.read (Elt F) (v.writes (Elt F) f (⟨Rect.unit (s := ⟨1, ![n]⟩) off S16.size inb, pay⟩ :: L)) = vec1 (addAt (m + 16) a o w) := by
  rw [store16 v hA inb h hp, put16_addAt]

/-- Sixteen more elements added to what the array held. -/
theorem addStep (v : View sig κ sp ⟨1, ![n]⟩ .f32) {f : v.ty.Contents (Elt F)} {L : List (View.Piece (Elt F) ⟨1, ![n]⟩ .f32)} {a w : Nat → F .f32} {o m : Nat}
    (hA : v.read (Elt F) (v.writes (Elt F) f L) = vec1 (addAt m a o w)) {off : Fin 1 → Nat} (inb : ∀ a, off a + S16.size a ≤ (⟨1, ![n]⟩ : Shape).size a) (h : off = ![o + m])
    {pay u : FVec F S16 .f32} (hu : u = vec1 (n := 16) fun x => w (m + x))
    (hp : pay = shapeCast S16 (addf (shapeCast S16 (v.readAt (Elt F) (Rect.unit (s := ⟨1, ![n]⟩) off S16.size inb).toLoadRect (v.writes (Elt F) f L) : FVec F S16 .f32) shapeCasts_S16_S16) u) shapeCasts_S16_S16) :
    v.read (Elt F) (v.writes (Elt F) f (⟨Rect.unit (s := ⟨1, ![n]⟩) off S16.size inb, pay⟩ :: L)) = vec1 (addAt (m + 16) a o w) := by
  refine addStepV v hA inb h ?_
  rw [hp, load16 v hA inb h, cast_addf_cast, hu]
  funext i
  show add2 (addAt m a o w (o + m + (i 0).val)) _ = _
  rw [addAt_past]; rfl

/-- Columns `16 j` to `16 j + 15` of the sum of the first `k` rows of a block. -/
def rv (g : Nat → F .f32) (k j : Nat) : FVec F S16 .f32 := vec1 (n := 16) fun x => rowsN g k (16 * j + x)

/-- Eight vectors of sixteen: what the loop over a block's rows carries. -/
abbrev F8 (F : FTy → Type) : Type := FVec F S16 .f32 × FVec F S16 .f32 × FVec F S16 .f32 × FVec F S16 .f32 × FVec F S16 .f32 × FVec F S16 .f32 × FVec F S16 .f32 × FVec F S16 .f32

/-- The sum of the first `k` rows, all 128 columns. -/
def rows8 (g : Nat → F .f32) (k : Nat) : F8 F := (rv g k 0, rv g k 1, rv g k 2, rv g k 3, rv g k 4, rv g k 5, rv g k 6, rv g k 7)

/-- One more row added to sixteen columns. -/
theorem rv_succ (v : View sig κ sp S16000 .f32) (f : v.ty.Contents (Elt F)) (g : Nat → F .f32) (hg : v.read (Elt F) f = vec1 (n := 16000) g)
    (k j : Nat) {off : Fin 1 → Nat} (inb : ∀ a, off a + S16.size a ≤ S16000.size a) (h : off = ![128 * k + 16 * j]) :
    addf (rv g k j) (shapeCast S16 (v.readAt (Elt F) (Rect.unit (s := S16000) off S16.size inb).toLoadRect f : FVec F S16 .f32) shapeCasts_S16_S16) = rv g (k + 1) j := by
  rw [addf_cast, load16 (n := 16000) v hg inb h]
  funext i
  show add2 _ (g (128 * k + 16 * j + _)) = rowsN g (k + 1) _
  rw [rowsN_succ, Nat.add_assoc]; rfl

theorem rows8_zero (g : Nat → F .f32) : rows8 g 0 = (k0_pay63, k0_pay63, k0_pay63, k0_pay63, k0_pay63, k0_pay63, k0_pay63, k0_pay63) := rfl

/-- A vector of sixteen cast to its own shape. -/
theorem cast16 {α : Type} (x : S16.Idx → α) (h : S16.ShapeCasts S16) : shapeCast S16 x h = x := shapeCast_id x h

/-- Sixteen elements loaded and cast to their own shape. -/
theorem load16c {κ : Kind} {sp : Space} {n : Nat} (v : View sig κ sp ⟨1, ![n]⟩ .f32) {f : v.ty.Contents (Elt F)} {A : Nat → F .f32} (hA : v.read (Elt F) f = vec1 A)
    {off : Fin 1 → Nat} {o : Nat} (inb : ∀ a, off a + S16.size a ≤ (⟨1, ![n]⟩ : Shape).size a) (h : off = ![o]) :
    shapeCast S16 (v.readAt (Elt F) (Rect.unit (s := ⟨1, ![n]⟩) off S16.size inb).toLoadRect f : FVec F S16 .f32) shapeCasts_S16_S16 = vec1 (n := 16) fun x => A (o + x) := by
  rw [load16 v hA inb h]; exact cast16 _ _

/-- Sixteen columns of a row of a block, loaded. -/
theorem rowU {κ : Kind} {sp : Space} (v : View sig κ sp S16000 .f32) {f : v.ty.Contents (Elt F)} {g : Nat → F .f32} (hg : v.read (Elt F) f = vec1 (n := 16000) g)
    (k j : Nat) {off : Fin 1 → Nat} (inb : ∀ a, off a + S16.size a ≤ S16000.size a) (h : off = ![128 * k + 16 * j]) :
    shapeCast S16 (v.readAt (Elt F) (Rect.unit (s := S16000) off S16.size inb).toLoadRect f : FVec F S16 .f32) shapeCasts_S16_S16 = vec1 (n := 16) fun x => g (128 * k + (16 * j + x)) := by
  refine (load16c (n := 16000) v hg inb h).trans ?_
  funext i
  exact congrArg g (Nat.add_assoc _ _ _)

/-- One element of a vector of sixteen words, taken out by slice and extraction. -/
theorem extract16 (x : IVec S16 32) (j : Nat) (h : S16.ShapeCasts S16) (hs : S16.Slices ![j] S1) (hp : ∀ a : Fin 1, (![0] : Fin 1 → Nat) a < S1.size a) (hj : j < 16) :
    extractAt ![0] (extractStridedSlice S1 ![j] (shapeCast S16 x h) hs) hp = x (fun | 0 => ⟨j, hj⟩) := by
  rw [cast16]
  refine congrArg x ?_
  funext a
  obtain rfl : a = 0 := Subsingleton.elim _ _
  exact Fin.ext (Nat.add_zero j)

/-- One word of an array of words, loaded with its neighbours and taken out. -/
theorem word16 {κ : Kind} {sp : Space} {n : Nat} (v : View sig κ sp ⟨1, ![n]⟩ .i32) {f : v.ty.Contents (Elt F)} {A : Nat → BitVec 32} (hA : v.read (Elt F) f = vec1 A)
    {off : Fin 1 → Nat} {o : Nat} (inb : ∀ a, off a + S16.size a ≤ (⟨1, ![n]⟩ : Shape).size a) (h : off = ![o])
    (j : Nat) (hs : S16.Slices ![j] S1) (hp : ∀ a : Fin 1, (![0] : Fin 1 → Nat) a < S1.size a) (hj : j < 16) :
    extractAt ![0] (extractStridedSlice S1 ![j] (shapeCast S16 (v.readAt (Elt F) (Rect.unit (s := ⟨1, ![n]⟩) off S16.size inb).toLoadRect f : IVec S16 32) shapeCasts_S16_S16) hs) hp = A (o + j) := by
  rw [load16 v hA inb h]
  exact extract16 _ j _ hs hp hj

/-- The numbers 0 to 15, as the kernel counts the lanes. -/
abbrev iota16 : IVec S16 32 := iota .scVector S16 32 [0] iota_S16_d0_w32_scVector

theorem lane_fin : ∀ (n : Fin 64) (x : Fin 16), Scalar.cmpi .eq (BitVec.ofNat 32 x.val + flr16 (BitVec.ofNat 32 n.val) * 16#32) (BitVec.ofNat 32 n.val) = 1#1 ↔ x.val + 16 * (n.val / 16) = n.val := by
  decide +kernel

/-- The kernel's addend to sixteen counts: `c` on the segment's own lane and zero on the others. -/
theorem cntPay {id : BitVec 32} (hid : id.toNat < 64) (c : F .f32) (x : FVec F S16 .f32) (h h' : S16.ShapeCasts S16) :
    shapeCast S16 (addf (shapeCast S16 x h) (select (cmpi .eq (addi iota16 (broadcast S16 (Scalar.muli (flr16 id) 16#32))) (broadcast S16 id)) (broadcast S16 c) (broadcast S16 zeroF))) h'
      = fun i => add2 (x i) (cntW id.toNat c (i 0).val) := by
  rw [cast_addf_cast]
  funext i
  refine congrArg (add2 (x i)) ?_
  show (if Scalar.cmpi .eq (iota16 i + flr16 id * 16#32) id = 1#1 then c else zeroF) = _
  unfold cntW
  obtain ⟨n, rfl⟩ := word_lt hid
  have e : iota16 i = BitVec.ofNat 32 (i 0).val := by
    show BitVec.ofNat 32 (0 * S16.size 0 + (i 0).val) = _
    rw [Nat.zero_mul, Nat.zero_add]
  have hn : (BitVec.ofNat 32 n.val).toNat = n.val := by rw [BitVec.toNat_ofNat]; have := n.isLt; omega
  rw [e, hn]
  exact if_congr (lane_fin n (i 0)) rfl rfl

/-- Sixteen counts stored, `c` added to the segment's own. -/
theorem cntStep {κ : Kind} {sp : Space} {n : Nat} (v : View sig κ sp ⟨1, ![n]⟩ .f32) {f : v.ty.Contents (Elt F)} {cn : Nat → F .f32} (hA : v.read (Elt F) f = vec1 cn)
    {id : BitVec 32} (hid : id.toNat < 64) (c : F .f32) {off : Fin 1 → Nat} (inb : ∀ a, off a + S16.size a ≤ (⟨1, ![n]⟩ : Shape).size a) (h : off = ![16 * (id.toNat / 16)])
    {pay : FVec F S16 .f32}
    (hp : pay = shapeCast S16 (addf (shapeCast S16 (v.readAt (Elt F) (Rect.unit (s := ⟨1, ![n]⟩) off S16.size inb).toLoadRect f : FVec F S16 .f32) shapeCasts_S16_S16)
      (select (cmpi .eq (addi iota16 (broadcast S16 (Scalar.muli (flr16 id) 16#32))) (broadcast S16 id)) (broadcast S16 c) (broadcast S16 zeroF))) shapeCasts_S16_S16) :
    v.read (Elt F) (v.writes (Elt F) f [⟨Rect.unit (s := ⟨1, ![n]⟩) off S16.size inb, pay⟩]) = vec1 (addAt 16 cn (16 * (id.toNat / 16)) (cntW id.toNat c)) := by
  have e := addStepV (m := 0) (L := []) (a := cn) (w := cntW id.toNat c) (o := 16 * (id.toNat / 16)) v (f := f) (by rw [addAt_zero]; exact hA) inb h (pay := pay) (by
    rw [hp, cntPay hid, load16 v hA inb h]
    funext i
    show add2 (cn _) (cntW _ c _) = add2 (cn _) (cntW _ c _)
    rw [Nat.add_zero, Nat.zero_add])
  exact e

end Cert.Proof.Seg
-- ==== Proof.Slot0.lean ====
/-
  The rows of an even block, lying in the first slot of the features' buffer: the block whose rows are one segment's,
  summed at once, and the block whose rows are several segments', added row by row.
-/
module
public import proofs.«01_k».proof.Proof.Steps
public import Idealize.ShloMosaic.Lib.Tactic.Stretches
@[expose] public section
noncomputable section
namespace Cert.Proof.Seg
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
variable {F : FTy → Type} [FloatOps F]
local notation "𝕄" => MT nD τ sig (HIx 1) (Elt F) ℕ UU ℕ
local notation "bV" => (Memref.whole Cert.KernelIdeal.cc0_scratch0 : Memref Cert.KernelIdeal.sig Kind.scVector Space.vmem Cert.KernelIdeal.S2x16000 EltTy.f32)

variable (d : Dev nD) (L : grid0.Coords)
/-- The first slot of the features' buffer. -/
abbrev slot0 : Memref sig .scVector .vmem S16000 .f32 :=
  ((bV).slice (Rect.unit (s := S2x16000) ![0, 0] S1x16000.size inb_S2x16000_S1x16000_0_0) (fun _ => rfl)).squeeze S16000 squeezes_S1x16000_S16000

/-- Before row `k`: the block in its slot, and the eight running vectors of its first `k` rows' sums. -/
def inv3 (f : Buf (Elt F) ((slot0).view.loc (V d (cV L) (jV L)))) (g : Nat → F .f32) (k : Nat) (acc : F8 F) : sProp 𝕄 :=
  iprop(⌜acc = rows8 g k⌝ ∗ slot0.view.loc (V d (cV L) (jV L)) ↦[slot0.view.set]{fullShare} f)

/-- One row of a block of one segment is added to the running sums. -/
theorem t3 (f : Buf (Elt F) ((slot0).view.loc (V d (cV L) (jV L)))) (g : Nat → F .f32) (hg : slot0.view.read (Elt F) f = vec1 (n := 16000) g)
    (v22 : FVec F S16 .f32) (v80 v87 : BitVec 32) (hw : k0_chk1 v80 v87) (h1 : k0_cond1 v80 v87 = 1#1) (k : Fin k0_t3_loop.trips) (acc : F8 F) :
   inv3 d L f g k acc ⊢
    wp frame (wpE (defs₀ (F := F)) 𝒱₀ (V d (cV L) (jV L)) none) Set.univ
      (k0_t3_body (F := F) L (Memref.whole main_v1_scv) (Memref.isWhole_whole _) (Memref.whole main_arg1_scv) (Memref.isWhole_whole _) (Memref.whole main_v3_0_scv) (Memref.isWhole_whole _) (Memref.whole main_v3_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1 v22 v80 v87 hw h1 k acc) (inv3 d L f g (k + 1)) := by
  unfold k0_t3_body inv3
  iintro ⟨%hacc, H⟩
  subst hacc
  unfold rows8
  sl_exec
  sl_step
  isplitr
  · ipureintro
    sl_open_run
    simp only [Prod.mk.injEq]
    exact ⟨rv_succ slot0.view f g hg k 0 _ (k0_off7_eq k 0), rv_succ slot0.view f g hg k 1 _ (k0_off7_eq k 1),
      rv_succ slot0.view f g hg k 2 _ (k0_off7_eq k 2), rv_succ slot0.view f g hg k 3 _ (k0_off7_eq k 3),
      rv_succ slot0.view f g hg k 4 _ (k0_off7_eq k 4), rv_succ slot0.view f g hg k 5 _ (k0_off7_eq k 5),
      rv_succ slot0.view f g hg k 6 _ (k0_off7_eq k 6), rv_succ slot0.view f g hg k 7 _ (k0_off7_eq k 7)⟩
  · iexact H

local notation "aV" => (Memref.whole Cert.KernelIdeal.cc0_scratch2 : Memref Cert.KernelIdeal.sig Kind.scVector Space.vmem Cert.KernelIdeal.S8192 EltTy.f32)

omit [FloatOps F] in
/-- Equal contents are held alike. -/
theorem pts_eq {ℓ : Loc nD τ sig} {q : PosShare TreeShare} {f g : Buf (Elt F) ℓ} (h : f = g) : (ℓ ↦{q} f : sProp 𝕄) ⊢ ℓ ↦{q} g := by
  subst h; exact Entails.rfl

/-- A block of one segment adds its rows' sums to the first 64 of that segment's; the fifth sixteen is added but not yet stored, the last three are the rows' sums. -/
theorem part2 (f : Buf (Elt F) ((slot0).view.loc (V d (cV L) (jV L)))) (g a : Nat → F .f32) (hg : slot0.view.read (Elt F) f = vec1 (n := 16000) g)
    (v80 v87 : BitVec 32) (hw : k0_chk1 v80 v87) (h1 : k0_cond1 v80 v87 = 1#1) (o : Nat) (ho : ∀ r : Fin 8, k0_off8 v80 (BitVec.ofNat 32 (16 * r.val)) = ![o + 16 * r.val]) :
    iprop((slot0.view.loc (V d (cV L) (jV L)) ↦[slot0.view.set]{fullShare} f) ∗ ((aV).view.loc (V d (cV L) (jV L)) ↦{fullShare} vec1 (n := 8192) a)) ⊢
    wp frame (wpE (defs₀ (F := F)) 𝒱₀ (V d (cV L) (jV L)) none) Set.univ
      (k0_part2 (F := F) L (Memref.whole main_v1_scv) (Memref.isWhole_whole _) (Memref.whole main_arg1_scv) (Memref.isWhole_whole _) (Memref.whole main_v3_0_scv) (Memref.isWhole_whole _) (Memref.whole main_v3_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1 k0_pay63 v80 v87 hw h1) (fun r => (iprop(⌜r.1 = rv g 125 5 ∧ r.2.1 = rv g 125 6 ∧ r.2.2.1 = rv g 125 7 ∧ r.2.2.2.2.1 = (fun i => add2 (a (o + 64 + (i 0).val)) (rv g 125 4 i))⌝ ∗ (slot0.view.loc (V d (cV L) (jV L)) ↦[slot0.view.set]{fullShare} f) ∗ ((aV).view.loc (V d (cV L) (jV L)) ↦{fullShare} vec1 (n := 8192) (addAt 64 a o (rowsN g 125)))) : sProp 𝕄)) := by
  rw [k0_part2_eq_skeleton]; unfold k0_part2_skel
  iintro ⟨Hs, Ha⟩
  sl_exec
  sl_for (inv3 d L f g) $$ [Hs]
  case region =>
    intro k acc
    exact t3 d L f g hg _ v80 v87 hw h1 k acc
  · unfold inv3
    isplitr
    · ipureintro; rfl
    · iexact Hs
  iintro %acc HI
  unfold inv3
  icases HI with ⟨%hacc, Hs⟩
  subst hacc
  unfold rows8
  sl_exec
  sl_step
  have hu (j : Nat) : rv g 125 j = vec1 (n := 16) fun x => rowsN g 125 (16 * j + x) := rfl
  have hA := addStep (aV).view (addStep (aV).view (addStep (aV).view (addStep (aV).view (f := vec1 a) (L := []) (a := a) (w := rowsN g 125) (o := o) (m := 0)
    (by rw [addAt_zero]; rfl) (k0_off8_inb v80 v87 hw h1 0) (ho 0) (hu 0) rfl)
    (k0_off8_inb v80 v87 hw h1 1) (ho 1) (hu 1) rfl) (k0_off8_inb v80 v87 hw h1 2) (ho 2) (hu 2) rfl) (k0_off8_inb v80 v87 hw h1 3) (ho 3) (hu 3) rfl
  isplitr
  · ipureintro
    refine ⟨rfl, rfl, rfl, ?_⟩
    refine (cast_addf _ (rv g 125 4) shapeCasts_S16_S16).trans ?_
    funext i
    refine (congrArg (fun z : FVec F S16 .f32 => add2 (z i) (rv g 125 4 i)) (load16 (n := 8192) (aV).view hA (k0_off8_inb v80 v87 hw h1 4) (ho 4))).trans ?_
    show add2 (addAt _ a o _ (o + 64 + (i 0).val)) _ = _
    rw [addAt_past]
  · isplitl [Hs]
    · iexact Hs
    · iapply (pts_eq ?hh) $$ Ha
      case hh => exact hA

local notation "dV" => (Memref.whole Cert.KernelIdeal.cc0_scratch1 : Memref Cert.KernelIdeal.sig Kind.scVector Space.vmem Cert.KernelIdeal.S1528 EltTy.i32)
local notation "nV" => (Memref.whole Cert.KernelIdeal.cc0_scratch3 : Memref Cert.KernelIdeal.sig Kind.scVector Space.vmem Cert.KernelIdeal.S64 EltTy.f32)

/-- Before row `k` of a block whose rows are added one by one. -/
def inv4 (f : Buf (Elt F) ((slot0).view.loc (V d (cV L) (jV L)))) (g : Nat → F .f32) (iw : Nat → BitVec 32) (b : Nat) (a c : Nat → F .f32) (k : Nat) (_ : BitVec 32) : sProp 𝕄 :=
  iprop((slot0.view.loc (V d (cV L) (jV L)) ↦[slot0.view.set]{fullShare} f)
    ∗ ((dV).view.loc (V d (cV L) (jV L)) ↦{fullShare} (vec1 (n := 1528) iw : Buf (Elt F) _))
    ∗ ((aV).view.loc (V d (cV L) (jV L)) ↦{fullShare} vec1 (n := 8192) (rowSt g (fun r => (iw (b + r)).toNat) a c k).1)
    ∗ ((nV).view.loc (V d (cV L) (jV L)) ↦{fullShare} vec1 (n := 64) (rowSt g (fun r => (iw (b + r)).toNat) a c k).2))

/-- The segment of row `k`, as the kernel reads it. -/
abbrev word4 (iw : Nat → BitVec 32) (t : Fin k0_t2_loop.trips) (k : Fin k0_t4_loop.trips) : BitVec 32 :=
  extractAt ![0] (k0_pay18 (F := F) ((dV).view.readAt (Elt F) (Rect.unit (s := S1528) (k0_off10 L t k) S16.size (k0_off10_inb L t k)).toLoadRect (vec1 (n := 1528) iw))) inpos_S1_p0

/-- One row of a block of several segments is added to its own segment's sums and count. -/
theorem t4 (f : Buf (Elt F) ((slot0).view.loc (V d (cV L) (jV L)))) (g : Nat → F .f32) (hg : slot0.view.read (Elt F) f = vec1 (n := 16000) g)
    (iw : Nat → BitVec 32) (hiw : ∀ k, (iw k).toNat < 64) (t : Fin k0_t2_loop.trips) (a c : Nat → F .f32)
    (v2 v21 v75 v80 v87 : BitVec 32) (v22 : FVec F S16 .f32) (h2 : k0_cond2 v80 v87 = 1#1) (k : Fin k0_t4_loop.trips) (x : BitVec 32) :
    inv4 d L f g iw (1500 * wid L % 8 + 250 * t.val) a c k x ⊢
    wp frame (wpE (defs₀ (F := F)) 𝒱₀ (V d (cV L) (jV L)) none) Set.univ
      (k0_t4_body (F := F) L (Memref.whole main_v1_scv) (Memref.isWhole_whole _) (Memref.whole main_arg1_scv) (Memref.isWhole_whole _) (Memref.whole main_v3_0_scv) (Memref.isWhole_whole _) (Memref.whole main_v3_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1 v2 v21 v22 iota16 0#32 1#32 t v75 v80 v87 h2 k x) (inv4 d L f g iw (1500 * wid L % 8 + 250 * t.val) a c (k + 1)) := by
  unfold k0_t4_body
  rw [k0_part4_eq_skeleton, k0_part5_eq_skeleton, k0_part6_eq_skeleton]
  unfold k0_part4_skel k0_part5_skel k0_part6_skel
  unfold inv4
  generalize hb : 1500 * wid L % 8 + 250 * t.val = b
  generalize hA0 : (rowSt g (fun r => (iw (b + r)).toNat) a c k).1 = a0
  generalize hC0 : (rowSt g (fun r => (iw (b + r)).toNat) a c k).2 = c0
  iintro ⟨Hs, Hd, Ha, Hn⟩
  have hv : word4 (F := F) L iw t k = iw (b + k) := by
    rw [← hb]
    exact word16 (n := 1528) (dV).view (f := vec1 (n := 1528) iw) (A := iw) rfl _ (off10_eq L t k) 0 slices_S16_o0_S1 inpos_S1_p0 (by decide)
  have hlt : (iw (b + k)).toNat < 64 := hiw _
  rw [← hv] at hlt
  sl_exec (disch := exact chk2_of v80 v87 hlt)
  sl_step
  have hw2 : k0_chk2 v80 v87 (word4 (F := F) L iw t k) := chk2_of v80 v87 hlt
  have inb := fun r => k0_off11_inb v80 v87 (word4 (F := F) L iw t k) hw2 h2 r
  have hu := fun r : Fin 8 => rowU slot0.view hg k r.val (k0_off12_inb k r) (k0_off12_eq k r)
  have hA := addStep (aV).view (addStep (aV).view (addStep (aV).view (addStep (aV).view (addStep (aV).view (addStep (aV).view (addStep (aV).view (addStep (aV).view
    (f := vec1 a0) (L := []) (a := a0) (w := fun x => g (128 * k + x)) (o := 128 * (word4 (F := F) L iw t k).toNat) (m := 0)
    (by rw [addAt_zero]; rfl) (inb 0) (off11_eq hlt 0) (hu 0) rfl) (inb 1) (off11_eq hlt 1) (hu 1) rfl) (inb 2) (off11_eq hlt 2) (hu 2) rfl) (inb 3) (off11_eq hlt 3) (hu 3) rfl)
    (inb 4) (off11_eq hlt 4) (hu 4) rfl) (inb 5) (off11_eq hlt 5) (hu 5) rfl) (inb 6) (off11_eq hlt 6) (hu 6) rfl) (inb 7) (off11_eq hlt 7) (hu 7) rfl
  have hC := cntStep (nV).view (f := vec1 (n := 64) c0) (cn := c0) rfl hlt c1 (k0_off13_inb v80 v87 (word4 (F := F) L iw t k) hw2 h2) (off13_eq hlt) rfl
  have e1 : (rowSt g (fun r => (iw (b + r)).toNat) a c (k + 1)).1 = addAt 128 a0 (128 * (word4 (F := F) L iw t k).toNat) (fun x => g (128 * k + x)) := by
    rw [hv, ← hA0]; rfl
  have e2 : (rowSt g (fun r => (iw (b + r)).toNat) a c (k + 1)).2 = addAt 16 c0 (16 * ((word4 (F := F) L iw t k).toNat / 16)) (cntW (word4 (F := F) L iw t k).toNat c1) := by
    rw [hv, ← hC0]; rfl
  rw [e1, e2]
  isplitl [Hs]
  · iexact Hs
  isplitl [Hd]
  · iexact Hd
  isplitl [Ha]
  · iapply (pts_eq ?hh) $$ Ha
    case hh => exact hA
  · iapply (pts_eq ?hh2) $$ Hn
    case hh2 => exact hC

end Cert.Proof.Seg
-- ==== Proof.Slot1.lean ====
/-
  The rows of an odd block, lying in the second slot of the features' buffer: the block whose rows are one segment's,
  summed at once, and the block whose rows are several segments', added row by row.
-/
module
public import proofs.«01_k».proof.Proof.Slot0
public import Idealize.ShloMosaic.Lib.Tactic.Stretches
@[expose] public section
noncomputable section
namespace Cert.Proof.Seg
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
variable {F : FTy → Type} [FloatOps F]
local notation "𝕄" => MT nD τ sig (HIx 1) (Elt F) ℕ UU ℕ
local notation "bV" => (Memref.whole Cert.KernelIdeal.cc0_scratch0 : Memref Cert.KernelIdeal.sig Kind.scVector Space.vmem Cert.KernelIdeal.S2x16000 EltTy.f32)

variable (d : Dev nD) (L : grid0.Coords)
/-- The second slot of the features' buffer. -/
abbrev slot1 : Memref sig .scVector .vmem S16000 .f32 :=
  ((bV).slice (Rect.unit (s := S2x16000) ![1, 0] S1x16000.size inb_S2x16000_S1x16000_1_0) (fun _ => rfl)).squeeze S16000 squeezes_S1x16000_S16000

/-- Before row `k`: the block in its slot, and the eight running vectors of its first `k` rows' sums. -/
def inv5 (f : Buf (Elt F) ((slot1).view.loc (V d (cV L) (jV L)))) (g : Nat → F .f32) (k : Nat) (acc : F8 F) : sProp 𝕄 :=
  iprop(⌜acc = rows8 g k⌝ ∗ slot1.view.loc (V d (cV L) (jV L)) ↦[slot1.view.set]{fullShare} f)

/-- One row of a block of one segment is added to the running sums. -/
theorem t5 (f : Buf (Elt F) ((slot1).view.loc (V d (cV L) (jV L)))) (g : Nat → F .f32) (hg : slot1.view.read (Elt F) f = vec1 (n := 16000) g)
    (v22 : FVec F S16 .f32) (v115 v122 : BitVec 32) (hw : k0_chk3 v115 v122) (h1 : k0_cond4 v115 v122 = 1#1) (k : Fin k0_t5_loop.trips) (acc : F8 F) :
   inv5 d L f g k acc ⊢
    wp frame (wpE (defs₀ (F := F)) 𝒱₀ (V d (cV L) (jV L)) none) Set.univ
      (k0_t5_body (F := F) L (Memref.whole main_v1_scv) (Memref.isWhole_whole _) (Memref.whole main_arg1_scv) (Memref.isWhole_whole _) (Memref.whole main_v3_0_scv) (Memref.isWhole_whole _) (Memref.whole main_v3_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1 v22 v115 v122 hw h1 k acc) (inv5 d L f g (k + 1)) := by
  unfold k0_t5_body inv5
  iintro ⟨%hacc, H⟩
  subst hacc
  unfold rows8
  sl_exec
  sl_step
  isplitr
  · ipureintro
    sl_open_run
    simp only [Prod.mk.injEq]
    exact ⟨rv_succ slot1.view f g hg k 0 _ (k0_off18_eq k 0), rv_succ slot1.view f g hg k 1 _ (k0_off18_eq k 1),
      rv_succ slot1.view f g hg k 2 _ (k0_off18_eq k 2), rv_succ slot1.view f g hg k 3 _ (k0_off18_eq k 3),
      rv_succ slot1.view f g hg k 4 _ (k0_off18_eq k 4), rv_succ slot1.view f g hg k 5 _ (k0_off18_eq k 5),
      rv_succ slot1.view f g hg k 6 _ (k0_off18_eq k 6), rv_succ slot1.view f g hg k 7 _ (k0_off18_eq k 7)⟩
  · iexact H

local notation "aV" => (Memref.whole Cert.KernelIdeal.cc0_scratch2 : Memref Cert.KernelIdeal.sig Kind.scVector Space.vmem Cert.KernelIdeal.S8192 EltTy.f32)

/-- A block of one segment adds its rows' sums to the first 64 of that segment's; the fifth sixteen is added but not yet stored, the last three are the rows' sums. -/
theorem part8 (f : Buf (Elt F) ((slot1).view.loc (V d (cV L) (jV L)))) (g a : Nat → F .f32) (hg : slot1.view.read (Elt F) f = vec1 (n := 16000) g)
    (v115 v122 : BitVec 32) (hw : k0_chk3 v115 v122) (h1 : k0_cond4 v115 v122 = 1#1) (o : Nat) (ho : ∀ r : Fin 8, k0_off19 v115 (BitVec.ofNat 32 (16 * r.val)) = ![o + 16 * r.val]) :
    iprop((slot1.view.loc (V d (cV L) (jV L)) ↦[slot1.view.set]{fullShare} f) ∗ ((aV).view.loc (V d (cV L) (jV L)) ↦{fullShare} vec1 (n := 8192) a)) ⊢
    wp frame (wpE (defs₀ (F := F)) 𝒱₀ (V d (cV L) (jV L)) none) Set.univ
      (k0_part8 (F := F) L (Memref.whole main_v1_scv) (Memref.isWhole_whole _) (Memref.whole main_arg1_scv) (Memref.isWhole_whole _) (Memref.whole main_v3_0_scv) (Memref.isWhole_whole _) (Memref.whole main_v3_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1 k0_pay63 v115 v122 hw h1) (fun r => (iprop(⌜r.1 = rv g 125 5 ∧ r.2.1 = rv g 125 6 ∧ r.2.2.1 = rv g 125 7 ∧ r.2.2.2.2.1 = (fun i => add2 (a (o + 64 + (i 0).val)) (rv g 125 4 i))⌝ ∗ (slot1.view.loc (V d (cV L) (jV L)) ↦[slot1.view.set]{fullShare} f) ∗ ((aV).view.loc (V d (cV L) (jV L)) ↦{fullShare} vec1 (n := 8192) (addAt 64 a o (rowsN g 125)))) : sProp 𝕄)) := by
  rw [k0_part8_eq_skeleton]; unfold k0_part8_skel
  iintro ⟨Hs, Ha⟩
  sl_exec
  sl_for (inv5 d L f g) $$ [Hs]
  case region =>
    intro k acc
    exact t5 d L f g hg _ v115 v122 hw h1 k acc
  · unfold inv5
    isplitr
    · ipureintro; rfl
    · iexact Hs
  iintro %acc HI
  unfold inv5
  icases HI with ⟨%hacc, Hs⟩
  subst hacc
  unfold rows8
  sl_exec
  sl_step
  have hu (j : Nat) : rv g 125 j = vec1 (n := 16) fun x => rowsN g 125 (16 * j + x) := rfl
  have hA := addStep (aV).view (addStep (aV).view (addStep (aV).view (addStep (aV).view (f := vec1 a) (L := []) (a := a) (w := rowsN g 125) (o := o) (m := 0)
    (by rw [addAt_zero]; rfl) (k0_off19_inb v115 v122 hw h1 0) (ho 0) (hu 0) rfl)
    (k0_off19_inb v115 v122 hw h1 1) (ho 1) (hu 1) rfl) (k0_off19_inb v115 v122 hw h1 2) (ho 2) (hu 2) rfl) (k0_off19_inb v115 v122 hw h1 3) (ho 3) (hu 3) rfl
  isplitr
  · ipureintro
    refine ⟨rfl, rfl, rfl, ?_⟩
    refine (cast_addf _ (rv g 125 4) shapeCasts_S16_S16).trans ?_
    funext i
    refine (congrArg (fun z : FVec F S16 .f32 => add2 (z i) (rv g 125 4 i)) (load16 (n := 8192) (aV).view hA (k0_off19_inb v115 v122 hw h1 4) (ho 4))).trans ?_
    show add2 (addAt _ a o _ (o + 64 + (i 0).val)) _ = _
    rw [addAt_past]
  · isplitl [Hs]
    · iexact Hs
    · iapply (pts_eq ?hh) $$ Ha
      case hh => exact hA

local notation "dV" => (Memref.whole Cert.KernelIdeal.cc0_scratch1 : Memref Cert.KernelIdeal.sig Kind.scVector Space.vmem Cert.KernelIdeal.S1528 EltTy.i32)
local notation "nV" => (Memref.whole Cert.KernelIdeal.cc0_scratch3 : Memref Cert.KernelIdeal.sig Kind.scVector Space.vmem Cert.KernelIdeal.S64 EltTy.f32)

/-- Before row `k` of a block whose rows are added one by one. -/
def inv6 (f : Buf (Elt F) ((slot1).view.loc (V d (cV L) (jV L)))) (g : Nat → F .f32) (iw : Nat → BitVec 32) (b : Nat) (a c : Nat → F .f32) (k : Nat) (_ : BitVec 32) : sProp 𝕄 :=
  iprop((slot1.view.loc (V d (cV L) (jV L)) ↦[slot1.view.set]{fullShare} f)
    ∗ ((dV).view.loc (V d (cV L) (jV L)) ↦{fullShare} (vec1 (n := 1528) iw : Buf (Elt F) _))
    ∗ ((aV).view.loc (V d (cV L) (jV L)) ↦{fullShare} vec1 (n := 8192) (rowSt g (fun r => (iw (b + r)).toNat) a c k).1)
    ∗ ((nV).view.loc (V d (cV L) (jV L)) ↦{fullShare} vec1 (n := 64) (rowSt g (fun r => (iw (b + r)).toNat) a c k).2))

/-- The segment of row `k`, as the kernel reads it. -/
abbrev word6 (iw : Nat → BitVec 32) (t : Fin k0_t2_loop.trips) (k : Fin k0_t6_loop.trips) : BitVec 32 :=
  extractAt ![0] (k0_pay47 (F := F) ((dV).view.readAt (Elt F) (Rect.unit (s := S1528) (k0_off21 L t k) S16.size (k0_off21_inb L t k)).toLoadRect (vec1 (n := 1528) iw))) inpos_S1_p0

/-- One row of a block of several segments is added to its own segment's sums and count. -/
theorem t6 (f : Buf (Elt F) ((slot1).view.loc (V d (cV L) (jV L)))) (g : Nat → F .f32) (hg : slot1.view.read (Elt F) f = vec1 (n := 16000) g)
    (iw : Nat → BitVec 32) (hiw : ∀ k, (iw k).toNat < 64) (t : Fin k0_t2_loop.trips) (a c : Nat → F .f32)
    (v1 v2 v21 v110 v115 v122 : BitVec 32) (v22 : FVec F S16 .f32) (h2 : k0_cond5 v115 v122 = 1#1) (k : Fin k0_t6_loop.trips) (x : BitVec 32) :
    inv6 d L f g iw (1500 * wid L % 8 + 250 * t.val + 125) a c k x ⊢
    wp frame (wpE (defs₀ (F := F)) 𝒱₀ (V d (cV L) (jV L)) none) Set.univ
      (k0_t6_body (F := F) L (Memref.whole main_v1_scv) (Memref.isWhole_whole _) (Memref.whole main_arg1_scv) (Memref.isWhole_whole _) (Memref.whole main_v3_0_scv) (Memref.isWhole_whole _) (Memref.whole main_v3_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1 v1 v2 v21 v22 iota16 t v110 v115 v122 h2 k x) (inv6 d L f g iw (1500 * wid L % 8 + 250 * t.val + 125) a c (k + 1)) := by
  unfold k0_t6_body
  rw [k0_part10_eq_skeleton, k0_part11_eq_skeleton, k0_part12_eq_skeleton]
  unfold k0_part10_skel k0_part11_skel k0_part12_skel
  unfold inv6
  generalize hb : 1500 * wid L % 8 + 250 * t.val + 125 = b
  generalize hA0 : (rowSt g (fun r => (iw (b + r)).toNat) a c k).1 = a0
  generalize hC0 : (rowSt g (fun r => (iw (b + r)).toNat) a c k).2 = c0
  iintro ⟨Hs, Hd, Ha, Hn⟩
  have hv : word6 (F := F) L iw t k = iw (b + k) := by
    rw [← hb]
    exact word16 (n := 1528) (dV).view (f := vec1 (n := 1528) iw) (A := iw) rfl _ (off21_eq L t k) 0 slices_S16_o0_S1 inpos_S1_p0 (by decide)
  have hlt : (iw (b + k)).toNat < 64 := hiw _
  rw [← hv] at hlt
  sl_exec (disch := exact chk4_of v115 v122 hlt)
  sl_step
  have hw2 : k0_chk4 v115 v122 (word6 (F := F) L iw t k) := chk4_of v115 v122 hlt
  have inb := fun r => k0_off22_inb v115 v122 (word6 (F := F) L iw t k) hw2 h2 r
  have hu := fun r : Fin 8 => rowU slot1.view hg k r.val (k0_off23_inb k r) (k0_off23_eq k r)
  have hA := addStep (aV).view (addStep (aV).view (addStep (aV).view (addStep (aV).view (addStep (aV).view (addStep (aV).view (addStep (aV).view (addStep (aV).view
    (f := vec1 a0) (L := []) (a := a0) (w := fun x => g (128 * k + x)) (o := 128 * (word6 (F := F) L iw t k).toNat) (m := 0)
    (by rw [addAt_zero]; rfl) (inb 0) (off22_eq hlt 0) (hu 0) rfl) (inb 1) (off22_eq hlt 1) (hu 1) rfl) (inb 2) (off22_eq hlt 2) (hu 2) rfl) (inb 3) (off22_eq hlt 3) (hu 3) rfl)
    (inb 4) (off22_eq hlt 4) (hu 4) rfl) (inb 5) (off22_eq hlt 5) (hu 5) rfl) (inb 6) (off22_eq hlt 6) (hu 6) rfl) (inb 7) (off22_eq hlt 7) (hu 7) rfl
  have hC := cntStep (nV).view (f := vec1 (n := 64) c0) (cn := c0) rfl hlt c1 (k0_off24_inb v115 v122 (word6 (F := F) L iw t k) hw2 h2) (off24_eq hlt) rfl
  have e1 : (rowSt g (fun r => (iw (b + r)).toNat) a c (k + 1)).1 = addAt 128 a0 (128 * (word6 (F := F) L iw t k).toNat) (fun x => g (128 * k + x)) := by
    rw [hv, ← hA0]; rfl
  have e2 : (rowSt g (fun r => (iw (b + r)).toNat) a c (k + 1)).2 = addAt 16 c0 (16 * ((word6 (F := F) L iw t k).toNat / 16)) (cntW (word6 (F := F) L iw t k).toNat c1) := by
    rw [hv, ← hC0]; rfl
  rw [e1, e2]
  isplitl [Hs]
  · iexact Hs
  isplitl [Hd]
  · iexact Hd
  isplitl [Ha]
  · iapply (pts_eq ?hh) $$ Ha
    case hh => exact hA
  · iapply (pts_eq ?hh2) $$ Hn
    case hh2 => exact hC

end Cert.Proof.Seg
-- ==== Proof.Flights.lean ====
/-
  A tile's two slots, each with a block's copy in flight or free, its sums and counts, and what it owes.
-/
module
public import proofs.«01_k».proof.Proof.Steps
public import Idealize.ShloMosaic.Lib.Tactic.Stretches
@[expose] public section
noncomputable section
namespace Cert.Proof.Seg
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
variable {F : FTy → Type} [FloatOps F]
local notation "𝕄" => MT nD τ sig (HIx 1) (Elt F) ℕ UU ℕ
local notation "bV" => (Memref.whole Cert.KernelIdeal.cc0_scratch0 : Memref Cert.KernelIdeal.sig Kind.scVector Space.vmem Cert.KernelIdeal.S2x16000 EltTy.f32)

local notation "aV" => (Memref.whole Cert.KernelIdeal.cc0_scratch2 : Memref Cert.KernelIdeal.sig Kind.scVector Space.vmem Cert.KernelIdeal.S8192 EltTy.f32)
local notation "dV" => (Memref.whole Cert.KernelIdeal.cc0_scratch1 : Memref Cert.KernelIdeal.sig Kind.scVector Space.vmem Cert.KernelIdeal.S1528 EltTy.i32)
local notation "nV" => (Memref.whole Cert.KernelIdeal.cc0_scratch3 : Memref Cert.KernelIdeal.sig Kind.scVector Space.vmem Cert.KernelIdeal.S64 EltTy.f32)
local notation "xV" => (Memref.whole Cert.KernelIdeal.main_v1_scv : Memref Cert.KernelIdeal.sig Kind.scVector Space.hbm Cert.KernelIdeal.S12800000 EltTy.f32)
local notation "EC" => (countersEmb : UEmb Counters 𝕄)

variable (d : Dev nD) (L : grid0.Coords)

/-- Sixteen thousand of the flat features, from `off` on. -/
abbrev src (off : Fin 1 → Nat) (inb : ∀ a, off a + S16000.size a ≤ S12800000.size a) : Memref sig .scVector .hbm S16000 .f32 :=
  (xV).slice (Rect.unit (s := S12800000) off S16000.size inb) (fun _ => rfl)

variable (sl : Memref sig .scVector .vmem S16000 .f32) (sm : DmaSems sig S_)

/-- A block's copy into a slot in flight, and the rest of the features beside it. -/
def fly (q : PosShare TreeShare) (fe : Nat → F .f32) (o : Nat) : sProp 𝕄 :=
  iprop(∃ off : Fin 1 → Nat, ∃ inb, ⌜off = ![o]⌝ ∗ Transfers.Flight EC (V d (cV L) (jV L)) (.dma sm.sem) (default : HIx 1) (sl.view.amount (.dma sm.sem))
      (iprop(∃ f, ⌜sl.view.read (Elt F) f = vec1 (n := 16000) fun x => fe (o + x)⌝ ∗ (sl.view.loc (V d (cV L) (jV L)) ↦[sl.view.set]{fullShare} f)
        ∗ ((src off inb).view.loc (V d (cV L) (jV L)) ↦[(src off inb).view.set]{q} (vec1 (n := 12800000) fe : Buf (Elt F) ((src off inb).view.loc (V d (cV L) (jV L)))))))
    ∗ ((src off inb).view.loc (V d (cV L) (jV L)) ↦[Finset.univ \ (src off inb).view.set]{q} (vec1 (n := 12800000) fe : Buf (Elt F) ((src off inb).view.loc (V d (cV L) (jV L))))))

/-- A slot free, its cell at zero, and the features whole. -/
def free (q : PosShare TreeShare) (fe : Nat → F .f32) : sProp 𝕄 :=
  iprop(semVal (V d (cV L) (jV L), .dma sm.sem) 0 ∗ (∃ f, (sl.view.loc (V d (cV L) (jV L)) ↦[sl.view.set]{fullShare} f))
    ∗ ((xV).view.loc (V d (cV L) (jV L)) ↦{q} (vec1 (n := 12800000) fe : Buf (Elt F) _)))

/-- A slot before trip `n`, its blocks lying `32000` apart from `o` on: the trip's block in flight, or the slot free after the last. -/
def st (q : PosShare TreeShare) (fe : Nat → F .f32) (o n : Nat) : sProp 𝕄 :=
  if n < 6 then fly d L sl sm q fe (o + 32000 * n) else free d L sl sm q fe

omit [FloatOps F] in
/-- What a window of the flat features holds. -/
theorem src_read (fe : Nat → F .f32) {off : Fin 1 → Nat} {o : Nat} (inb : ∀ a, off a + S16000.size a ≤ S12800000.size a) (h : off = ![o]) :
    (src off inb).view.read (Elt F) (vec1 (n := 12800000) fe) = vec1 (n := 16000) fun x => fe (o + x) := by
  subst h
  funext y
  exact congrArg (fun z => fe (o + z)) (Nat.one_mul (y 0).val)

/-- A copy just started is a block in flight. -/
theorem fly_intro (q : PosShare TreeShare) (fe : Nat → F .f32) {off : Fin 1 → Nat} {o : Nat} (inb : ∀ a, off a + S16000.size a ≤ S12800000.size a) (h : off = ![o])
    (f : Buf (Elt F) (sl.view.loc (V d (cV L) (jV L)))) :
    iprop(Transfers.Flight EC (V d (cV L) (jV L)) (.dma sm.sem) (default : HIx 1) (sl.view.amount (.dma sm.sem))
      (iprop((sl.view.loc (V d (cV L) (jV L)) ↦[sl.view.set]{fullShare} sl.view.writes (Elt F) f [⟨Rect.whole S16000, ((src off inb).view.read (Elt F) (vec1 (n := 12800000) fe) : S16000.Idx → F .f32)⟩])
        ∗ ((src off inb).view.loc (V d (cV L) (jV L)) ↦[(src off inb).view.set]{q} (vec1 (n := 12800000) fe : Buf (Elt F) ((src off inb).view.loc (V d (cV L) (jV L)))))))
    ∗ ((src off inb).view.loc (V d (cV L) (jV L)) ↦[Finset.univ \ (src off inb).view.set]{q} (vec1 (n := 12800000) fe : Buf (Elt F) ((src off inb).view.loc (V d (cV L) (jV L)))))) ⊢ fly d L sl sm q fe o := by
  unfold fly
  iintro ⟨Hf, Hr⟩
  iexists off, inb
  isplitr; · ipureintro; exact h
  isplitl [Hf]
  · iapply (Transfers.Flight_mono EC (h := ?hm)) $$ Hf
    case hm =>
      iintro ⟨Hs, Hx⟩
      iexists (sl.view.writes (Elt F) f [⟨Rect.whole S16000, ((src off inb).view.read (Elt F) (vec1 (n := 12800000) fe) : S16000.Idx → F .f32)⟩])
      isplitr
      · ipureintro; exact (View.read_writes_whole _ _ _).trans (src_read fe inb h)
      isplitl [Hs]; · iexact Hs
      iexact Hx
  · iexact Hr

/-- A tile's sums and counts. -/
def tot (s : (Nat → F .f32) × (Nat → F .f32)) : sProp 𝕄 :=
  iprop(((aV).view.loc (V d (cV L) (jV L)) ↦{fullShare} vec1 (n := 8192) s.1) ∗ ((nV).view.loc (V d (cV L) (jV L)) ↦{fullShare} vec1 (n := 64) s.2))

/-- What a tile owes, its waits recorded. -/
def owing (O : CellTallies nD τ sig (HIx 1)) (W : Waits sig (HIx 1)) : sProp 𝕄 :=
  iprop(∃ W', ⌜∀ p ∈ W', p ∈ W ∨ p.2 = none⌝ ∗ owes (V d (cV L) (jV L)) O W')

omit [FloatOps F] in
/-- One more wait recorded. -/
theorem owing_intro (O : CellTallies nD τ sig (HIx 1)) (W W' : Waits sig (HIx 1)) (h : ∀ p ∈ W', p ∈ W ∨ p.2 = none) (x : SemLoc sig) :
    (owes (V d (cV L) (jV L)) O (insert (x, (default : HIx 1)) W') : sProp 𝕄) ⊢ iprop(∃ W', ⌜∀ p ∈ W', p ∈ W ∨ p.2 = none⌝ ∗ owes (V d (cV L) (jV L)) O W') := by
  iintro HO
  iexists (insert (x, (default : HIx 1)) W')
  isplitr
  · ipureintro
    intro p hp
    rcases Finset.mem_insert.1 hp with rfl | hp
    · exact Or.inr rfl
    · exact h p hp
  · iexact HO

omit [FloatOps F] in
/-- The same, folded. -/
theorem owing_intro' (O : CellTallies nD τ sig (HIx 1)) (W W' : Waits sig (HIx 1)) (h : ∀ p ∈ W', p ∈ W ∨ p.2 = none) (x : SemLoc sig) :
    (owes (V d (cV L) (jV L)) O (insert (x, (default : HIx 1)) W') : sProp 𝕄) ⊢ owing (F := F) d L O W :=
  owing_intro d L O W W' h x

omit [FloatOps F] in
/-- The sums and counts, folded. -/
theorem tot_intro (s : (Nat → F .f32) × (Nat → F .f32)) :
    iprop(((aV).view.loc (V d (cV L) (jV L)) ↦{fullShare} vec1 (n := 8192) s.1) ∗ ((nV).view.loc (V d (cV L) (jV L)) ↦{fullShare} vec1 (n := 64) s.2)) ⊢ tot d L s :=
  Entails.rfl

end Cert.Proof.Seg
-- ==== Proof.Block0.lean ====
/-
  An even block: its copy awaited, and its rows added to the tile's sums and counts.
-/
module
public import proofs.«01_k».proof.Proof.Slot0
public import proofs.«01_k».proof.Proof.Flights
public import Idealize.ShloMosaic.Lib.Tactic.Stretches
@[expose] public section
noncomputable section
namespace Cert.Proof.Seg
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
variable {F : FTy → Type} [FloatOps F]
local notation "𝕄" => MT nD τ sig (HIx 1) (Elt F) ℕ UU ℕ
local notation "bV" => (Memref.whole Cert.KernelIdeal.cc0_scratch0 : Memref Cert.KernelIdeal.sig Kind.scVector Space.vmem Cert.KernelIdeal.S2x16000 EltTy.f32)

local notation "aV" => (Memref.whole Cert.KernelIdeal.cc0_scratch2 : Memref Cert.KernelIdeal.sig Kind.scVector Space.vmem Cert.KernelIdeal.S8192 EltTy.f32)
local notation "dV" => (Memref.whole Cert.KernelIdeal.cc0_scratch1 : Memref Cert.KernelIdeal.sig Kind.scVector Space.vmem Cert.KernelIdeal.S1528 EltTy.i32)
local notation "nV" => (Memref.whole Cert.KernelIdeal.cc0_scratch3 : Memref Cert.KernelIdeal.sig Kind.scVector Space.vmem Cert.KernelIdeal.S64 EltTy.f32)
local notation "xV" => (Memref.whole Cert.KernelIdeal.main_v1_scv : Memref Cert.KernelIdeal.sig Kind.scVector Space.hbm Cert.KernelIdeal.S12800000 EltTy.f32)
local notation "EC" => (countersEmb : UEmb Counters 𝕄)

variable (d : Dev nD) (L : grid0.Coords)

/-- The segments of an even block's first and last row, as the kernel reads them. -/
abbrev word80 (iw : Nat → BitVec 32) (t : Fin k0_t2_loop.trips) : BitVec 32 :=
  extractAt ![0] (k0_pay59 (F := F) ((dV).view.readAt (Elt F) (Rect.unit (s := S1528) (k0_off5 L t) S16.size (k0_off5_inb L t)).toLoadRect (vec1 (n := 1528) iw))) inpos_S1_p0
/-- The segment of the last row. -/
abbrev word87 (iw : Nat → BitVec 32) (t : Fin k0_t2_loop.trips) : BitVec 32 :=
  extractAt ![0] (k0_pay60 (F := F) ((dV).view.readAt (Elt F) (Rect.unit (s := S1528) (k0_off6 L t) S16.size (k0_off6_inb L t)).toLoadRect (vec1 (n := 1528) iw))) inpos_S1_p0

/-- An even block's copy arrives and its rows are added to the tile's sums and counts. -/
theorem part13 (q : PosShare TreeShare) (fe : Nat → F .f32) (O : CellTallies nD τ sig (HIx 1)) (W : Waits sig (HIx 1)) (v2 v21 : BitVec 32) (t : Fin k0_t2_loop.trips) (iw : Nat → BitVec 32) (hiw : ∀ k, (iw k).toNat < 64) (s : (Nat → F .f32) × (Nat → F .f32)) :
   iprop(Transfers.MayWaits (V d (cV L) (jV L)) (default : HIx 1) O ∗ st d L slot0 cc0_scratch4 q fe (192000 * wid L) t.val ∗
       ((dV).view.loc (V d (cV L) (jV L)) ↦{fullShare} (vec1 (n := 1528) iw : Buf (Elt F) _)) ∗ tot d L s ∗ owing d L O W) ⊢
    wp frame (wpE (defs₀ (F := F)) 𝒱₀ (V d (cV L) (jV L)) none) Set.univ
      (k0_part13 (F := F) L (Memref.whole main_v1_scv) (Memref.isWhole_whole _) (Memref.whole main_arg1_scv) (Memref.isWhole_whole _) (Memref.whole main_v3_0_scv) (Memref.isWhole_whole _) (Memref.whole main_v3_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1 v2 v21 k0_pay63 iota16 0#32 1#32 t) fun _ => iprop(st d L slot0 cc0_scratch4 q fe (192000 * wid L) (t.val + 1) ∗
       ((dV).view.loc (V d (cV L) (jV L)) ↦{fullShare} (vec1 (n := 1528) iw : Buf (Elt F) _))
       ∗ tot d L (blkSt (fun x => fe (192000 * wid L + 32000 * t.val + x)) (fun r => (iw (1500 * wid L % 8 + 250 * t.val + r)).toNat) s) ∗ owing d L O W) := by
  rw [k0_part13_eq_skeleton]; unfold k0_part13_skel
  have ht6 : t.val < 6 := t.isLt
  rw [show st d L slot0 cc0_scratch4 q fe (192000 * wid L) t.val = fly d L slot0 cc0_scratch4 q fe (192000 * wid L + 32000 * t.val) from if_pos ht6]
  unfold fly tot
  generalize hg0 : (fun x => fe (192000 * wid L + 32000 * t.val + x)) = g
  generalize hb : 1500 * wid L % 8 + 250 * t.val = b
  unfold owing
  iintro ⟨#Hmw, ⟨%off, %inb, %hoff, Hfl, Hr⟩, Hd, ⟨Ha, Hn⟩, ⟨%W', %hW', HO⟩⟩
  sl_exec
  iapply (Transfers.wp_waitLocalO EC 𝒱₀ (V d (cV L) (jV L)) none (default : HIx 1) rfl) $$ [Hfl HO]
  · isplitl [Hfl]
    · iexact Hfl
    isplitl [HO]
    · iexact HO
    · iapply (Transfers.MayWaits.elim (SemLoc.dma (SemArray.sem cc0_scratch4))) $$ Hmw
  iintro ⟨⟨%f, %hf, Hs, Hx⟩, Hv, HO⟩
  ihave Hx' := (pointsTo_split_subset (Finset.subset_univ _)).2 $$ [Hx Hr]
  · isplitl [Hx]; · iexact Hx
    iexact Hr
  have hv80 : (word80 (F := F) L iw t) = iw b := by
    rw [← hb]
    exact word16 (n := 1528) (dV).view (f := vec1 (n := 1528) iw) (A := iw) rfl _ (off5_eq L t) 0 slices_S16_o0_S1 inpos_S1_p0 (by decide)
  have hv87 : (word87 (F := F) L iw t) = iw (b + 124) := by
    rw [← hb]
    exact word16 (n := 1528) (dV).view (f := vec1 (n := 1528) iw) (A := iw) rfl _ (off6_eq L t) 15 slices_S16_o15_S1 inpos_S1_p0 (by decide)
  have hlt : (iw b).toNat < 64 := hiw _
  rw [← hv80] at hlt
  sl_exec (disch := exact chk1_of hlt _)
  have hchk : k0_chk1 (part13.sl.v80 (F := F) L t iw : BitVec 32) (part13.sl.v87 (F := F) L t iw) := chk1_of hlt _
  refine Or.elim (eq_or_ne (iw b) (iw (b + 124))) ?uni ?mix
  case' uni =>
    intro hx
    have h1 : k0_cond1 (part13.sl.v80 (F := F) L t iw) (part13.sl.v87 (F := F) L t iw) = 1#1 := (cond1_iff _ _).2 (hv80.trans (hx.trans hv87.symm))
    have h2 : ¬ k0_cond2 (part13.sl.v80 (F := F) L t iw) (part13.sl.v87 (F := F) L t iw) = 1#1 := fun h => (cond2_iff _ _).1 h (hv80.trans (hx.trans hv87.symm))
    have hcut2 := part2 d L f g s.1 hf (part13.sl.v80 (F := F) L t iw) (part13.sl.v87 (F := F) L t iw) hchk h1 (128 * (part13.sl.v80 (F := F) L t iw : BitVec 32).toNat) (fun r => off8_eq hlt r)
    sl_exec
    obtain ⟨h5, h6, h7, h176⟩ := ‹_ ∧ _ ∧ _ ∧ _›
    replace h176 : v176 = _ := h176
    have hA := addStep (aV).view (addStep (aV).view (addStep (aV).view (addStepV (aV).view (f := vec1 (addAt 64 s.1 (128 * (part13.sl.v80 (F := F) L t iw : BitVec 32).toNat) (rowsN g 125))) (L := [])
      (a := s.1) (w := rowsN g 125) (o := 128 * (part13.sl.v80 (F := F) L t iw : BitVec 32).toNat) (m := 64) rfl (k0_off8_inb _ _ hchk h1 4) (off8_eq hlt 4) (pay := k0_pay14 v176)
      (by rw [h176]; exact (cast16 (fun i : S16.Idx => add2 (s.1 (128 * (part13.sl.v80 (F := F) L t iw : BitVec 32).toNat + 64 + (i 0).val)) (rowsN g 125 (64 + (i 0).val))) shapeCasts_S16_S16).trans rfl))
      (k0_off8_inb _ _ hchk h1 5) (off8_eq hlt 5) h5 rfl) (k0_off8_inb _ _ hchk h1 6) (off8_eq hlt 6) h6 rfl) (k0_off8_inb _ _ hchk h1 7) (off8_eq hlt 7) h7 rfl
    have hC := cntStep (nV).view (f := vec1 (n := 64) s.2) (cn := s.2) rfl hlt c125 (k0_off9_inb _ _ hchk h1) (off9_eq hlt) rfl
    have e : blkSt g (fun r => (iw (b + r)).toNat) s = (addAt 128 s.1 (128 * (part13.sl.v80 (F := F) L t iw : BitVec 32).toNat) (rowsN g 125),
        addAt 16 s.2 (16 * ((part13.sl.v80 (F := F) L t iw : BitVec 32).toNat / 16)) (cntW (part13.sl.v80 (F := F) L t iw : BitVec 32).toNat c125)) := by
      rw [show (part13.sl.v80 (F := F) L t iw : BitVec 32) = iw b from hv80]
      exact if_pos (congrArg BitVec.toNat hx)
    ihave Ha := (pts_eq (g := (vec1 (n := 8192) (blkSt g (fun r => (iw (b + r)).toNat) s).1 : Buf (Elt F) ((aV).view.loc (V d (cV L) (jV L))))) ?hh) $$ Hk0_part2_2
    case hh => rw [e]; exact hA
    ihave Hn := (pts_eq (g := (vec1 (n := 64) (blkSt g (fun r => (iw (b + r)).toNat) s).2 : Buf (Elt F) ((nV).view.loc (V d (cV L) (jV L))))) ?hh2) $$ Hn
    case hh2 => rw [e]; exact hC
    ihave Hs := (BIBase.Entails.rfl) $$ Hk0_part2_1
  case' mix =>
    intro hx
    have h1 : ¬ k0_cond1 (part13.sl.v80 (F := F) L t iw) (part13.sl.v87 (F := F) L t iw) = 1#1 := fun h => hx (hv80.symm.trans (((cond1_iff _ _).1 h).trans hv87))
    have h2 : k0_cond2 (part13.sl.v80 (F := F) L t iw) (part13.sl.v87 (F := F) L t iw) = 1#1 := (cond2_iff _ _).2 fun h => hx (hv80.symm.trans (Eq.trans h hv87))
    have e : blkSt g (fun r => (iw (b + r)).toNat) s = rowSt g (fun r => (iw (b + r)).toNat) s.1 s.2 125 :=
      if_neg fun h => hx (BitVec.eq_of_toNat_eq h)
    sl_exec
    sl_for (inv4 d L f g iw b s.1 s.2) $$ [Hs Hd Ha Hn]
    case region =>
      intro k acc
      rw [← hb]
      exact t4 d L f g hf iw hiw t s.1 s.2 _ _ _ _ _ _ h2 k acc
    · unfold inv4
      isplitl [Hs]; · iexact Hs
      isplitl [Hd]; · iexact Hd
      isplitl [Ha]; · iexact Ha
      iexact Hn
    iintro %acc HI
    unfold inv4
    icases HI with ⟨Hs, Hd, Ha, Hn⟩
    rw [show (rowSt g (fun r => (iw (b + r)).toNat) s.1 s.2 (k0_t4_loop.trips)) = _ from e.symm]
  all_goals
    by_cases ht : t.val < 5
    · have h3 : k0_cond3 t = 1#1 := (cond3_iff t).2 ht
      ihave Hx' := (Entails.of_eq (show ((src off inb).view.loc (V d (cV L) (jV L)) ↦{q} _ : sProp 𝕄) = ((xV).view.loc (V d (cV L) (jV L)) ↦{q} (vec1 (n := 12800000) fe : Buf (Elt F) _)) from rfl)) $$ Hx'
      sl_exec (disch := exact View.amount_pos _ _ (show 0 < S16000.numel by decide))
      sl_step
      rw [show st d L slot0 cc0_scratch4 q fe (192000 * wid L) (t.val + 1) = fly d L slot0 cc0_scratch4 q fe (192000 * wid L + 32000 * (t.val + 1)) from if_pos (by omega)]
      isplitl [Hv Hx']
      · iapply (fly_intro d L slot0 cc0_scratch4 q fe (k0_off14_inb L t h3) (off14_at L t) f) $$ [Hv Hx']
        isplitl [Hv]; · iexact Hv
        iexact Hx'
      isplitl [Hd]; · iexact Hd
      isplitl [Ha Hn]
      · isplitl [Ha]; · iexact Ha
        iexact Hn
      · iapply (owing_intro d L O W W' hW' _) $$ HO
    · have h3 : ¬ k0_cond3 t = 1#1 := fun h => ht ((cond3_iff t).1 h)
      sl_exec
      sl_step
      rw [show st d L slot0 cc0_scratch4 q fe (192000 * wid L) (t.val + 1) = free d L slot0 cc0_scratch4 q fe from if_neg (by omega)]
      unfold free
      isplitl [Hv Hs Hx']
      · isplitl [Hv]; · iexact Hv
        isplitl [Hs]
        · iexists f; iexact Hs
        · iexact Hx'
      isplitl [Hd]; · iexact Hd
      isplitl [Ha Hn]
      · isplitl [Ha]; · iexact Ha
        iexact Hn
      · iapply (owing_intro d L O W W' hW' _) $$ HO
end Cert.Proof.Seg
-- ==== Proof.Block1.lean ====
/-
  A trip of the loop over pairs of blocks: the even block, then the odd one, and the copies of the two blocks after them.
-/
module
public import proofs.«01_k».proof.Proof.Slot1
public import proofs.«01_k».proof.Proof.Block0
public import Idealize.ShloMosaic.Lib.Tactic.Stretches
@[expose] public section
noncomputable section
namespace Cert.Proof.Seg
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
variable {F : FTy → Type} [FloatOps F]
local notation "𝕄" => MT nD τ sig (HIx 1) (Elt F) ℕ UU ℕ
local notation "bV" => (Memref.whole Cert.KernelIdeal.cc0_scratch0 : Memref Cert.KernelIdeal.sig Kind.scVector Space.vmem Cert.KernelIdeal.S2x16000 EltTy.f32)

local notation "aV" => (Memref.whole Cert.KernelIdeal.cc0_scratch2 : Memref Cert.KernelIdeal.sig Kind.scVector Space.vmem Cert.KernelIdeal.S8192 EltTy.f32)
local notation "dV" => (Memref.whole Cert.KernelIdeal.cc0_scratch1 : Memref Cert.KernelIdeal.sig Kind.scVector Space.vmem Cert.KernelIdeal.S1528 EltTy.i32)
local notation "nV" => (Memref.whole Cert.KernelIdeal.cc0_scratch3 : Memref Cert.KernelIdeal.sig Kind.scVector Space.vmem Cert.KernelIdeal.S64 EltTy.f32)
local notation "xV" => (Memref.whole Cert.KernelIdeal.main_v1_scv : Memref Cert.KernelIdeal.sig Kind.scVector Space.hbm Cert.KernelIdeal.S12800000 EltTy.f32)
local notation "EC" => (countersEmb : UEmb Counters 𝕄)

variable (d : Dev nD) (L : grid0.Coords)

/-- The segments of an odd block's first and last row, as the kernel reads them. -/
abbrev word115 (iw : Nat → BitVec 32) (t : Fin k0_t2_loop.trips) : BitVec 32 :=
  extractAt ![0] (k0_pay69 (F := F) ((dV).view.readAt (Elt F) (Rect.unit (s := S1528) (k0_off16 L t) S16.size (k0_off16_inb L t)).toLoadRect (vec1 (n := 1528) iw))) inpos_S1_p0
/-- The segment of the last row. -/
abbrev word122 (iw : Nat → BitVec 32) (t : Fin k0_t2_loop.trips) : BitVec 32 :=
  extractAt ![0] (k0_pay70 (F := F) ((dV).view.readAt (Elt F) (Rect.unit (s := S1528) (k0_off17 L t) S16.size (k0_off17_inb L t)).toLoadRect (vec1 (n := 1528) iw))) inpos_S1_p0

/-- Before trip `k`: each slot's block in flight or the slot free, the tile's ids, the sums and counts of `2 k` blocks, and what the tile owes. -/
def inv2 (q0 q1 : PosShare TreeShare) (fe : Nat → F .f32) (O : CellTallies nD τ sig (HIx 1)) (W : Waits sig (HIx 1)) (iw : Nat → BitVec 32) (ids : Nat → Nat) (k : Nat) (_ : BitVec 32) : sProp 𝕄 :=
  iprop(Transfers.MayWaits (V d (cV L) (jV L)) (default : HIx 1) O ∗ st d L slot0 cc0_scratch4 q0 fe (192000 * wid L) k ∗ st d L slot1 cc0_scratch5 q1 fe (192000 * wid L + 16000) k
    ∗ ((dV).view.loc (V d (cV L) (jV L)) ↦{fullShare} (vec1 (n := 1528) iw : Buf (Elt F) _)) ∗ tot d L (tileSt fe ids (wid L) (2 * k)) ∗ owing d L O W)

set_option maxHeartbeats 1000000 in
/-- A trip adds two blocks. -/
theorem t2 (q0 q1 : PosShare TreeShare) (fe : Nat → F .f32) (O : CellTallies nD τ sig (HIx 1)) (W : Waits sig (HIx 1)) (v1 v2 v21 : BitVec 32) (t : Fin k0_t2_loop.trips) (iw : Nat → BitVec 32) (hiw : ∀ k, (iw k).toNat < 64)
    (ids : Nat → Nat) (hids : ∀ r, (iw (1500 * wid L % 8 + r)).toNat = ids (1500 * wid L + r)) (x : BitVec 32) :
   inv2 d L q0 q1 fe O W iw ids t.val x ⊢
    wp frame (wpE (defs₀ (F := F)) 𝒱₀ (V d (cV L) (jV L)) none) Set.univ
      (k0_t2_body (F := F) L (Memref.whole main_v1_scv) (Memref.isWhole_whole _) (Memref.whole main_arg1_scv) (Memref.isWhole_whole _) (Memref.whole main_v3_0_scv) (Memref.isWhole_whole _) (Memref.whole main_v3_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1 v1 v2 v21 k0_pay63 iota16 t x) (inv2 d L q0 q1 fe O W iw ids (t.val + 1)) := by
  unfold k0_t2_body inv2
  have ht6 : t.val < 6 := t.isLt
  have hcut13 := part13 d L q0 fe O W v2 v21 t iw hiw (tileSt fe ids (wid L) (2 * t.val))
  have hs1 : blkSt (fun x => fe (192000 * wid L + 32000 * t.val + x)) (fun r => (iw (1500 * wid L % 8 + 250 * t.val + r)).toNat) (tileSt fe ids (wid L) (2 * t.val)) = tileSt fe ids (wid L) (2 * t.val + 1) := by
    show _ = blkSt _ _ _
    congr 1
    · funext x; rw [show 16000 * (2 * t.val) = 32000 * t.val by omega]
    · funext r; rw [Nat.add_assoc, hids, show 1500 * wid L + 125 * (2 * t.val) + r = 1500 * wid L + (250 * t.val + r) by omega]
  have hs2 : blkSt (fun x => fe (192000 * wid L + 16000 + 32000 * t.val + x)) (fun r => (iw (1500 * wid L % 8 + 250 * t.val + 125 + r)).toNat) (tileSt fe ids (wid L) (2 * t.val + 1)) = tileSt fe ids (wid L) (2 * (t.val + 1)) := by
    show _ = blkSt (fun x => fe (192000 * wid L + 16000 * (2 * t.val + 1) + x)) (fun r => ids (1500 * wid L + 125 * (2 * t.val + 1) + r)) _
    congr 1
    · funext x; rw [show 192000 * wid L + 16000 * (2 * t.val + 1) = 192000 * wid L + 16000 + 32000 * t.val by omega]
    · funext r; rw [show 1500 * wid L % 8 + 250 * t.val + 125 + r = 1500 * wid L % 8 + (250 * t.val + 125 + r) by omega, hids, show 1500 * wid L + 125 * (2 * t.val + 1) + r = 1500 * wid L + (250 * t.val + 125 + r) by omega]
  rw [hs1] at hcut13
  rw [← hs2]
  generalize tileSt fe ids (wid L) (2 * t.val + 1) = s at hcut13 ⊢
  generalize st d L slot0 cc0_scratch4 q0 fe (192000 * wid L) (t.val + 1) = A at hcut13 ⊢
  generalize st d L slot0 cc0_scratch4 q0 fe (192000 * wid L) t.val = B at hcut13 ⊢
  rw [show st d L slot1 cc0_scratch5 q1 fe (192000 * wid L + 16000) t.val = fly d L slot1 cc0_scratch5 q1 fe (192000 * wid L + 16000 + 32000 * t.val) from if_pos ht6]
  unfold fly
  generalize hg0 : (fun x => fe (192000 * wid L + 16000 + 32000 * t.val + x)) = g
  generalize hb : 1500 * wid L % 8 + 250 * t.val + 125 = b
  iintro ⟨#Hmw, Hs0, ⟨%off, %inb, %hoff, Hfl, Hr⟩, Hd, Ht, HO⟩
  sl_exec
  ihave Hs0 := BIBase.Entails.rfl $$ Hk0_part13_0
  ihave Hd := BIBase.Entails.rfl $$ Hk0_part13_1
  ihave Ha := BIBase.Entails.rfl $$ Hk0_part13_2
  ihave Hn := BIBase.Entails.rfl $$ Hk0_part13_3
  ihave HO := BIBase.Entails.rfl $$ Hk0_part13_5
  iapply (Transfers.wp_waitLocalO EC 𝒱₀ (V d (cV L) (jV L)) none (default : HIx 1) rfl) $$ [Hfl HO]
  · isplitl [Hfl]
    · iexact Hfl
    isplitl [HO]
    · iexact HO
    · iapply (Transfers.MayWaits.elim (SemLoc.dma (SemArray.sem cc0_scratch5))) $$ Hmw
  iintro ⟨⟨%f, %hf, Hs, Hx⟩, Hv, HO⟩
  ihave Hx' := (pointsTo_split_subset (Finset.subset_univ _)).2 $$ [Hx Hr]
  · isplitl [Hx]; · iexact Hx
    iexact Hr
  have hv115 : (word115 (F := F) L iw t) = iw b := by
    rw [← hb]
    exact word16 (n := 1528) (dV).view (f := vec1 (n := 1528) iw) (A := iw) rfl _ (off16_eq L t) 0 slices_S16_o0_S1 inpos_S1_p0 (by decide)
  have hv122 : (word122 (F := F) L iw t) = iw (b + 124) := by
    rw [← hb]
    exact word16 (n := 1528) (dV).view (f := vec1 (n := 1528) iw) (A := iw) rfl _ (off17_eq L t) 15 slices_S16_o15_S1 inpos_S1_p0 (by decide)
  have hlt : (iw b).toNat < 64 := hiw _
  rw [← hv115] at hlt
  sl_exec (disch := exact chk3_of hlt _)
  have hchk : k0_chk3 (t2.sl.v115 (F := F) L t iw : BitVec 32) (t2.sl.v122 (F := F) L t iw) := chk3_of hlt _
  refine Or.elim (eq_or_ne (iw b) (iw (b + 124))) ?uni ?mix
  case' uni =>
    intro hx
    have h1 : k0_cond4 (t2.sl.v115 (F := F) L t iw) (t2.sl.v122 (F := F) L t iw) = 1#1 := (cond4_iff _ _).2 (hv115.trans (hx.trans hv122.symm))
    have h2 : ¬ k0_cond5 (t2.sl.v115 (F := F) L t iw) (t2.sl.v122 (F := F) L t iw) = 1#1 := fun h => (cond5_iff _ _).1 h (hv115.trans (hx.trans hv122.symm))
    have hcut2 := part8 d L f g s.1 hf (t2.sl.v115 (F := F) L t iw) (t2.sl.v122 (F := F) L t iw) hchk h1 (128 * (t2.sl.v115 (F := F) L t iw : BitVec 32).toNat) (fun r => off19_eq hlt r)
    sl_exec
    obtain ⟨h5, h6, h7, h176⟩ := ‹_ ∧ _ ∧ _ ∧ _›
    replace h176 : v176 = _ := h176
    have hA := addStep (aV).view (addStep (aV).view (addStep (aV).view (addStepV (aV).view (f := vec1 (addAt 64 s.1 (128 * (t2.sl.v115 (F := F) L t iw : BitVec 32).toNat) (rowsN g 125))) (L := [])
      (a := s.1) (w := rowsN g 125) (o := 128 * (t2.sl.v115 (F := F) L t iw : BitVec 32).toNat) (m := 64) rfl (k0_off19_inb _ _ hchk h1 4) (off19_eq hlt 4) (pay := k0_pay43 v176)
      (by rw [h176]; exact (cast16 (fun i : S16.Idx => add2 (s.1 (128 * (t2.sl.v115 (F := F) L t iw : BitVec 32).toNat + 64 + (i 0).val)) (rowsN g 125 (64 + (i 0).val))) shapeCasts_S16_S16).trans rfl))
      (k0_off19_inb _ _ hchk h1 5) (off19_eq hlt 5) h5 rfl) (k0_off19_inb _ _ hchk h1 6) (off19_eq hlt 6) h6 rfl) (k0_off19_inb _ _ hchk h1 7) (off19_eq hlt 7) h7 rfl
    have hC := cntStep (nV).view (f := vec1 (n := 64) s.2) (cn := s.2) rfl hlt c125 (k0_off20_inb _ _ hchk h1) (off20_eq hlt) rfl
    have e : blkSt g (fun r => (iw (b + r)).toNat) s = (addAt 128 s.1 (128 * (t2.sl.v115 (F := F) L t iw : BitVec 32).toNat) (rowsN g 125),
        addAt 16 s.2 (16 * ((t2.sl.v115 (F := F) L t iw : BitVec 32).toNat / 16)) (cntW (t2.sl.v115 (F := F) L t iw : BitVec 32).toNat c125)) := by
      rw [show (t2.sl.v115 (F := F) L t iw : BitVec 32) = iw b from hv115]
      exact if_pos (congrArg BitVec.toNat hx)
    ihave Ha := (pts_eq (g := (vec1 (n := 8192) (blkSt g (fun r => (iw (b + r)).toNat) s).1 : Buf (Elt F) ((aV).view.loc (V d (cV L) (jV L))))) ?hh) $$ Hk0_part8_2
    case hh => rw [e]; exact hA
    ihave Hn := (pts_eq (g := (vec1 (n := 64) (blkSt g (fun r => (iw (b + r)).toNat) s).2 : Buf (Elt F) ((nV).view.loc (V d (cV L) (jV L))))) ?hh2) $$ Hn
    case hh2 => rw [e]; exact hC
    ihave Hs := (BIBase.Entails.rfl) $$ Hk0_part8_1
  case' mix =>
    intro hx
    have h1 : ¬ k0_cond4 (t2.sl.v115 (F := F) L t iw) (t2.sl.v122 (F := F) L t iw) = 1#1 := fun h => hx (hv115.symm.trans (((cond4_iff _ _).1 h).trans hv122))
    have h2 : k0_cond5 (t2.sl.v115 (F := F) L t iw) (t2.sl.v122 (F := F) L t iw) = 1#1 := (cond5_iff _ _).2 fun h => hx (hv115.symm.trans (Eq.trans h hv122))
    have e : blkSt g (fun r => (iw (b + r)).toNat) s = rowSt g (fun r => (iw (b + r)).toNat) s.1 s.2 125 :=
      if_neg fun h => hx (BitVec.eq_of_toNat_eq h)
    sl_exec
    sl_for (inv6 d L f g iw b s.1 s.2) $$ [Hs Hd Ha Hn]
    case region =>
      intro k acc
      rw [← hb]
      exact t6 d L f g hf iw hiw t s.1 s.2 _ _ _ _ _ _ _ h2 k acc
    · unfold inv6
      isplitl [Hs]; · iexact Hs
      isplitl [Hd]; · iexact Hd
      isplitl [Ha]; · iexact Ha
      iexact Hn
    iintro %acc HI
    unfold inv6
    icases HI with ⟨Hs, Hd, Ha, Hn⟩
    rw [show (rowSt g (fun r => (iw (b + r)).toNat) s.1 s.2 (k0_t6_loop.trips)) = _ from e.symm]
  all_goals
    by_cases ht : t.val < 5
    · have h3 : k0_cond6 t = 1#1 := (cond6_iff t).2 ht
      ihave Hx' := (Entails.of_eq (show ((src off inb).view.loc (V d (cV L) (jV L)) ↦{q1} _ : sProp 𝕄) = ((xV).view.loc (V d (cV L) (jV L)) ↦{q1} (vec1 (n := 12800000) fe : Buf (Elt F) _)) from rfl)) $$ Hx'
      sl_exec (disch := exact View.amount_pos _ _ (show 0 < S16000.numel by decide))
      sl_step
      rw [show st d L slot1 cc0_scratch5 q1 fe (192000 * wid L + 16000) (t.val + 1) = fly d L slot1 cc0_scratch5 q1 fe (192000 * wid L + 16000 + 32000 * (t.val + 1)) from if_pos (by omega)]
      isplitr; · iexact Hmw
      isplitl [Hs0]; · iexact Hs0
      isplitl [Hv Hx']
      · iapply (fly_intro d L slot1 cc0_scratch5 q1 fe (k0_off25_inb L t h3) (off25_at L t) f) $$ [Hv Hx']
        isplitl [Hv]; · iexact Hv
        iexact Hx'
      isplitl [Hd]; · iexact Hd
      isplitl [Ha Hn]
      · iapply (tot_intro d L _) $$ [Ha Hn]
        isplitl [Ha]; · iexact Ha
        iexact Hn
      · iapply (owing_intro' d L O W _ hk0_part13_4 _) $$ HO
    · have h3 : ¬ k0_cond6 t = 1#1 := fun h => ht ((cond6_iff t).1 h)
      sl_exec
      sl_step
      rw [show st d L slot1 cc0_scratch5 q1 fe (192000 * wid L + 16000) (t.val + 1) = free d L slot1 cc0_scratch5 q1 fe from if_neg (by omega)]
      unfold free
      isplitr; · iexact Hmw
      isplitl [Hs0]; · iexact Hs0
      isplitl [Hv Hs Hx']
      · isplitl [Hv]; · iexact Hv
        isplitl [Hs]
        · iexists f; iexact Hs
        · iexact Hx'
      isplitl [Hd]; · iexact Hd
      isplitl [Ha Hn]
      · iapply (tot_intro d L _) $$ [Ha Hn]
        isplitl [Ha]; · iexact Ha
        iexact Hn
      · iapply (owing_intro' d L O W _ hk0_part13_4 _) $$ HO
end Cert.Proof.Seg
-- ==== Proof.Tile.lean ====
/-
  A whole tile: its sums and counts zeroed, its ids copied in, its blocks added, its sums and counts copied out.
-/
module
public import proofs.«01_k».proof.Proof.Block1
public import Idealize.ShloMosaic.Lib.Tactic.Stretches
@[expose] public section
noncomputable section
namespace Cert.Proof.Seg
open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
variable {F : FTy → Type} [FloatOps F]
local notation "𝕄" => MT nD τ sig (HIx 1) (Elt F) ℕ UU ℕ
local notation "bV" => (Memref.whole Cert.KernelIdeal.cc0_scratch0 : Memref Cert.KernelIdeal.sig Kind.scVector Space.vmem Cert.KernelIdeal.S2x16000 EltTy.f32)

local notation "aV" => (Memref.whole Cert.KernelIdeal.cc0_scratch2 : Memref Cert.KernelIdeal.sig Kind.scVector Space.vmem Cert.KernelIdeal.S8192 EltTy.f32)
local notation "dV" => (Memref.whole Cert.KernelIdeal.cc0_scratch1 : Memref Cert.KernelIdeal.sig Kind.scVector Space.vmem Cert.KernelIdeal.S1528 EltTy.i32)
local notation "nV" => (Memref.whole Cert.KernelIdeal.cc0_scratch3 : Memref Cert.KernelIdeal.sig Kind.scVector Space.vmem Cert.KernelIdeal.S64 EltTy.f32)
local notation "xV" => (Memref.whole Cert.KernelIdeal.main_v1_scv : Memref Cert.KernelIdeal.sig Kind.scVector Space.hbm Cert.KernelIdeal.S12800000 EltTy.f32)
local notation "EC" => (countersEmb : UEmb Counters 𝕄)

local notation "iV" => (Memref.whole Cert.KernelIdeal.main_arg1_scv : Memref Cert.KernelIdeal.sig Kind.scVector Space.hbm Cert.KernelIdeal.S100000 EltTy.i32)
local notation "oV" => (Memref.whole Cert.KernelIdeal.main_v3_0_scv : Memref Cert.KernelIdeal.sig Kind.scVector Space.hbm Cert.KernelIdeal.S262144 EltTy.f32)
local notation "pV" => (Memref.whole Cert.KernelIdeal.main_v3_1_scv : Memref Cert.KernelIdeal.sig Kind.scVector Space.hbm Cert.KernelIdeal.S2048 EltTy.f32)

variable (d : Dev nD) (L : grid0.Coords)

omit [FloatOps F] in
/-- Zeroing sixteen more entries extends the zeroed prefix by sixteen. -/
theorem put16_zero (h : Nat → F .f32) (z : F .f32) (k : Nat) :
    put16 (fun p => if p < 16 * k then z else h p) (16 * k) (fun _ => z) = fun p => if p < 16 * (k + 1) then z else h p := by
  funext p
  show (if 16 * k ≤ p ∧ p < 16 * k + 16 then z else if p < 16 * k then z else h p) = _
  by_cases h1 : 16 * k ≤ p ∧ p < 16 * k + 16
  · rw [if_pos h1, if_pos (by omega)]
  · rw [if_neg h1]
    by_cases h2 : p < 16 * k
    · rw [if_pos h2, if_pos (by omega)]
    · rw [if_neg h2, if_neg (by omega)]

/-- Before trip `k` of the loop that clears the sums. -/
def inv1 (h : Nat → F .f32) (k : Nat) (_ : BitVec 32) : sProp 𝕄 :=
  iprop((aV).view.loc (V d (cV L) (jV L)) ↦{fullShare} vec1 (n := 8192) (fun p => if p < 16 * k then zeroF else h p))

/-- One trip of the zeroing loop zeroes sixteen more of the sums. -/
theorem t1 (h : Nat → F .f32) (v1 v2 v21 : BitVec 32) (k : Fin k0_t1_loop.trips) (x : BitVec 32) :
    inv1 d L h k x ⊢
    wp frame (wpE (defs₀ (F := F)) 𝒱₀ (V d (cV L) (jV L)) none) Set.univ
      (k0_t1_body (F := F) L (Memref.whole main_v1_scv) (Memref.isWhole_whole _) (Memref.whole main_arg1_scv) (Memref.isWhole_whole _) (Memref.whole main_v3_0_scv) (Memref.isWhole_whole _) (Memref.whole main_v3_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1 v1 v2 v21 k0_pay63 iota16 k x) (inv1 d L h (k + 1)) := by
  unfold k0_t1_body inv1
  iintro Ha
  sl_exec
  sl_step
  iapply (pts_eq ?hh) $$ Ha
  case hh =>
    have e := congrArg (vec1 (n := 8192)) (put16_zero h zeroF k.val)
    refine Eq.trans ?_ e
    exact store16 (Val := Elt F) (e := .f32) (aV).view (f := vec1 (n := 8192) (fun p => if p < 16 * k.val then zeroF else h p)) (A := fun p => if p < 16 * k.val then zeroF else h p) (L := []) rfl (k0_off3_inb k) (k0_off3_eq k)
      (w := fun _ => zeroF) ((cast16 (fun _ : S16.Idx => (zeroF : F .f32)) shapeCasts_S16_S16).trans rfl)

/-- A tile's part of the sums, and of the counts. -/
abbrev oRow : Memref sig .scVector .hbm S8192 .f32 := (oV).slice (Rect.unit (s := S262144) (k0_off26 L) S8192.size (k0_off26_inb L)) (fun _ => rfl)
/-- The row of the counts a tile writes. -/
abbrev pRow : Memref sig .scVector .hbm S64 .f32 := (pV).slice (Rect.unit (s := S2048) (k0_off27 L) S64.size (k0_off27_inb L)) (fun _ => rfl)

omit [FloatOps F] in
/-- A row of the sums written whole holds the tile's. -/
theorem o_out (f : Buf (Elt F) ((oRow L).view.loc (V d (cV L) (jV L)))) (g : Nat → Nat → F .f32) (pay : S8192.Idx → F .f32) (hpay : pay = vec1 (n := 8192) (g (wid L))) :
    ∀ i ∈ (oRow L).view.set, (oRow L).view.writes (Elt F) f [⟨Rect.whole S8192, pay⟩] i = vec1 (n := 262144) (fun p => g (p / 8192) (p % 8192)) i := by
  intro i hi
  obtain ⟨x, -, rfl⟩ := Finset.mem_map.mp hi
  have hx : (x 0).val < 8192 := (x 0).isLt
  have h1 : (oRow L).view.writes (Elt F) f [⟨Rect.whole S8192, pay⟩] ((oRow L).view.emb x) = pay x :=
    ((View.read_apply _ _).trans (cast_eq _ _)).symm.trans (congrFun (View.read_writes_whole (oRow L).view f pay) x)
  refine h1.trans ?_
  rw [hpay]
  have h2 : (((oRow L).view.emb x) 0).val = 8192 * wid L + (x 0).val := by
    have gen (off : Fin 1 → Nat) (inb : ∀ a, off a + S8192.size a ≤ S262144.size a) (o : Nat) (h : off = ![o]) :
        ((((oV).slice (Rect.unit (s := S262144) off S8192.size inb) (fun _ => rfl)).view.emb x) 0).val = o + (x 0).val := by
      subst h
      exact congrArg (o + ·) (Nat.one_mul (x 0).val)
    exact gen _ _ _ (off26_at L)
  show g (wid L) (x 0).val = g ((((oRow L).view.emb x) 0).val / 8192) ((((oRow L).view.emb x) 0).val % 8192)
  rw [h2, show (8192 * wid L + (x 0).val) / 8192 = wid L by omega, show (8192 * wid L + (x 0).val) % 8192 = (x 0).val by omega]

omit [FloatOps F] in
/-- A row of the counts written whole holds the tile's. -/
theorem p_out (f : Buf (Elt F) ((pRow L).view.loc (V d (cV L) (jV L)))) (g : Nat → Nat → F .f32) (pay : S64.Idx → F .f32) (hpay : pay = vec1 (n := 64) (g (wid L))) :
    ∀ i ∈ (pRow L).view.set, (pRow L).view.writes (Elt F) f [⟨Rect.whole S64, pay⟩] i = vec1 (n := 2048) (fun p => g (p / 64) (p % 64)) i := by
  intro i hi
  obtain ⟨x, -, rfl⟩ := Finset.mem_map.mp hi
  have hx : (x 0).val < 64 := (x 0).isLt
  have h1 : (pRow L).view.writes (Elt F) f [⟨Rect.whole S64, pay⟩] ((pRow L).view.emb x) = pay x :=
    ((View.read_apply _ _).trans (cast_eq _ _)).symm.trans (congrFun (View.read_writes_whole (pRow L).view f pay) x)
  refine h1.trans ?_
  rw [hpay]
  have h2 : (((pRow L).view.emb x) 0).val = 64 * wid L + (x 0).val := by
    have gen (off : Fin 1 → Nat) (inb : ∀ a, off a + S64.size a ≤ S2048.size a) (o : Nat) (h : off = ![o]) :
        ((((pV).slice (Rect.unit (s := S2048) off S64.size inb) (fun _ => rfl)).view.emb x) 0).val = o + (x 0).val := by
      subst h
      exact congrArg (o + ·) (Nat.one_mul (x 0).val)
    exact gen _ _ _ (off27_at L)
  show g (wid L) (x 0).val = g ((((pRow L).view.emb x) 0).val / 64) ((((pRow L).view.emb x) 0).val % 64)
  rw [h2, show (64 * wid L + (x 0).val) / 64 = wid L by omega, show (64 * wid L + (x 0).val) % 64 = (x 0).val by omega]

omit [FloatOps F] in
/-- After the last trip a slot is free. -/
theorem st_done (d : Dev nD) (L : grid0.Coords) (sl : Memref sig .scVector .vmem S16000 .f32) (sm : DmaSems sig S_) (q : PosShare TreeShare) (fe : Nat → F .f32) (o : Nat) :
    st d L sl sm q fe o 6 ⊢ (iprop(semVal (V d (cV L) (jV L), SemLoc.dma sm.sem) 0 ∗ (∃ f, ((sl).view.loc (V d (cV L) (jV L)) ↦[(sl).view.set]{fullShare} f))
      ∗ ((xV).view.loc (V d (cV L) (jV L)) ↦{q} (vec1 fe : Buf (Elt F) ((xV).view.loc (V d (cV L) (jV L)))))) : sProp 𝕄) :=
  .rfl

omit [FloatOps F] in
/-- The sums and counts, unfolded. -/
theorem tot_elim (d : Dev nD) (L : grid0.Coords) (s : (Nat → F .f32) × (Nat → F .f32)) :
    tot d L s ⊢ (iprop(((aV).view.loc (V d (cV L) (jV L)) ↦{fullShare} (vec1 s.1 : Buf (Elt F) ((aV).view.loc (V d (cV L) (jV L)))))
      ∗ ((nV).view.loc (V d (cV L) (jV L)) ↦{fullShare} (vec1 s.2 : Buf (Elt F) ((nV).view.loc (V d (cV L) (jV L)))))) : sProp 𝕄) :=
  .rfl

omit [FloatOps F] in
/-- What a tile owes, unfolded. -/
theorem owing_elim (d : Dev nD) (L : grid0.Coords) (O : CellTallies nD τ sig (HIx 1)) (W : Waits sig (HIx 1)) :
    owing (F := F) d L O W ⊢ (iprop(∃ W', ⌜∀ p ∈ W', p ∈ W ∨ p.2 = none⌝ ∗ owes (V d (cV L) (jV L)) O W') : sProp 𝕄) :=
  .rfl

omit [FloatOps F] in
/-- The ids a tile copies. -/
theorem ids_read (idw : Nat → BitVec 32) :
    ((iV).slice (Rect.unit (s := S100000) (k0_off1 L) S1528.size (k0_off1_inb L)) (fun _ => rfl)).view.read (Elt F) (vec1 (n := 100000) idw)
      = vec1 (n := 1528) fun k => idw (1500 * wid L - 1500 * wid L % 8 + k) := by
  have gen (off : Fin 1 → Nat) (inb : ∀ a, off a + S1528.size a ≤ S100000.size a) (h : off = ![1500 * wid L - 1500 * wid L % 8]) :
      ((iV).slice (Rect.unit (s := S100000) off S1528.size inb) (fun _ => rfl)).view.read (Elt F) (vec1 (n := 100000) idw)
        = vec1 (n := 1528) fun k => idw (1500 * wid L - 1500 * wid L % 8 + k) := by
    subst h
    funext y
    exact congrArg (fun z => idw (1500 * wid L - 1500 * wid L % 8 + z)) (Nat.one_mul (y 0).val)
  exact gen _ _ (off1_eq L)

/-- The counts cleared, sixteen at a time. -/
theorem cnt_zero (v : View sig .scVector .vmem S64 .f32) (f : v.ty.Contents (Elt F)) :
    v.read (Elt F) (v.writes (Elt F) f [⟨Rect.unit (s := S64) ![48] S16.size inb_S64_S16_48, k0_pay68 (F := F) k0_pay63⟩, ⟨Rect.unit (s := S64) ![32] S16.size inb_S64_S16_32, k0_pay67 (F := F) k0_pay63⟩,
      ⟨Rect.unit (s := S64) ![16] S16.size inb_S64_S16_16, k0_pay66 (F := F) k0_pay63⟩, ⟨Rect.unit (s := S64) ![0] S16.size inb_S64_S16_0, k0_pay65 (F := F) k0_pay63⟩]) = vec1 (n := 64) fun _ => (zeroF : F .f32) := by
  have hp (pay : S16.Idx → Elt F .f32) (h : pay = shapeCast S16 (fun _ : S16.Idx => (zeroF : F .f32)) shapeCasts_S16_S16) : pay = vec1 (n := 16) fun _ => (zeroF : F .f32) :=
    h.trans ((cast16 (fun _ : S16.Idx => (zeroF : F .f32)) shapeCasts_S16_S16).trans rfl)
  refine (store16 (Val := Elt F) (e := .f32) v (store16 (Val := Elt F) (e := .f32) v (store16 (Val := Elt F) (e := .f32) v (store16 (Val := Elt F) (e := .f32) v (f := f) (L := []) (A := nat1 (n := 63) (v.read (Elt F) f))
    (vec1_nat1 (n := 63) _).symm _ rfl (hp _ rfl)) _ rfl (hp _ rfl)) _ rfl (hp _ rfl)) _ rfl (hp _ rfl)).trans ?_
  funext y
  have hy : (y 0).val < 64 := (y 0).isLt
  show put16 _ _ _ (y 0).val = zeroF
  unfold put16
  by_cases h3 : 48 ≤ (y 0).val ∧ (y 0).val < 48 + 16
  · rw [if_pos h3]
  rw [if_neg h3]
  by_cases h2 : 32 ≤ (y 0).val ∧ (y 0).val < 32 + 16
  · rw [if_pos h2]
  rw [if_neg h2]
  by_cases h1 : 16 ≤ (y 0).val ∧ (y 0).val < 16 + 16
  · rw [if_pos h1]
  rw [if_neg h1, if_pos (by omega)]

/-- All tiles' sums, and their counts. -/
abbrev res0 (fe : Nat → F .f32) (ids : Nat → Nat) : S262144.Idx → F .f32 := vec1 (n := 262144) fun p => (tileSt fe ids (p / 8192) 12).1 (p % 8192)
/-- All tiles' counts. -/
abbrev res1 (fe : Nat → F .f32) (ids : Nat → Nat) : S2048.Idx → F .f32 := vec1 (n := 2048) fun p => (tileSt fe ids (p / 64) 12).2 (p % 64)

set_option maxHeartbeats 1000000 in
/-- A tile run from its shares of the features and ids writes its twelve blocks' sums and counts to its rows of the results, and gives back all it was handed. -/
theorem tile_run (q q' : PosShare TreeShare) (fe : Nat → F .f32) (idw : Nat → BitVec 32) (hid : ∀ k, (idw k).toNat < 64) (O : CellTallies nD τ sig (HIx 1)) (W : Waits sig (HIx 1))
    (f0 : Buf (Elt F) ((oV).view.loc (V d (cV L) (jV L)))) (f1 : Buf (Elt F) ((pV).view.loc (V d (cV L) (jV L)))) :
   (iprop(Transfers.MayWaits (V d (cV L) (jV L)) (default : HIx 1) O ∗ ((xV).view.loc (V d (cV L) (jV L)) ↦{q} (vec1 (n := 12800000) fe : Buf (Elt F) _)) ∗ ((iV).view.loc (V d (cV L) (jV L)) ↦{q'} (vec1 (n := 100000) idw : Buf (Elt F) _))
     ∗ ((oRow L).view.loc (V d (cV L) (jV L)) ↦[(oRow L).view.set]{fullShare} f0) ∗ ((pRow L).view.loc (V d (cV L) (jV L)) ↦[(pRow L).view.set]{fullShare} f1)
     ∗ (∃ f, slot0.view.loc (V d (cV L) (jV L)) ↦[slot0.view.set]{fullShare} f) ∗ (∃ f, slot1.view.loc (V d (cV L) (jV L)) ↦[slot1.view.set]{fullShare} f)
     ∗ (∃ f, (dV).view.loc (V d (cV L) (jV L)) ↦{fullShare} f) ∗ (∃ f, (aV).view.loc (V d (cV L) (jV L)) ↦{fullShare} f) ∗ (∃ f, (nV).view.loc (V d (cV L) (jV L)) ↦{fullShare} f)
     ∗ semVal (V d (cV L) (jV L), .dma cc0_scratch4.sem) 0 ∗ semVal (V d (cV L) (jV L), .dma cc0_scratch5.sem) 0 ∗ semVal (V d (cV L) (jV L), .dma cc0_scratch6.sem) 0
     ∗ semVal (V d (cV L) (jV L), .dma cc0_scoped0.sem) 0 ∗ semVal (V d (cV L) (jV L), .dma cc0_scoped1.sem) 0 ∗ owes (V d (cV L) (jV L)) O W) : sProp 𝕄) ⊢
    wp frame (wpE (defs₀ (F := F)) 𝒱₀ (V d (cV L) (jV L)) none) Set.univ
      (cc0_k (F := F) L (Memref.whole main_v1_scv) (Memref.isWhole_whole _) (Memref.whole main_arg1_scv) (Memref.isWhole_whole _) (Memref.whole main_v3_0_scv) (Memref.isWhole_whole _) (Memref.whole main_v3_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1) fun _ => iprop(
       ((xV).view.loc (V d (cV L) (jV L)) ↦{q} (vec1 (n := 12800000) fe : Buf (Elt F) _)) ∗ ((iV).view.loc (V d (cV L) (jV L)) ↦{q'} (vec1 (n := 100000) idw : Buf (Elt F) _))
     ∗ ((oRow L).view.loc (V d (cV L) (jV L)) ↦[(oRow L).view.set]{fullShare} (res0 fe (fun k => (idw k).toNat) : Buf (Elt F) ((oRow L).view.loc (V d (cV L) (jV L)))))
     ∗ ((pRow L).view.loc (V d (cV L) (jV L)) ↦[(pRow L).view.set]{fullShare} (res1 fe (fun k => (idw k).toNat) : Buf (Elt F) ((pRow L).view.loc (V d (cV L) (jV L)))))
     ∗ (∃ f, slot0.view.loc (V d (cV L) (jV L)) ↦[slot0.view.set]{fullShare} f) ∗ (∃ f, slot1.view.loc (V d (cV L) (jV L)) ↦[slot1.view.set]{fullShare} f)
     ∗ (∃ f, (dV).view.loc (V d (cV L) (jV L)) ↦{fullShare} f) ∗ (∃ f, (aV).view.loc (V d (cV L) (jV L)) ↦{fullShare} f) ∗ (∃ f, (nV).view.loc (V d (cV L) (jV L)) ↦{fullShare} f)
     ∗ semVal (V d (cV L) (jV L), .dma cc0_scratch4.sem) 0 ∗ semVal (V d (cV L) (jV L), .dma cc0_scratch5.sem) 0 ∗ semVal (V d (cV L) (jV L), .dma cc0_scratch6.sem) 0
     ∗ semVal (V d (cV L) (jV L), .dma cc0_scoped0.sem) 0 ∗ semVal (V d (cV L) (jV L), .dma cc0_scoped1.sem) 0 ∗ ∃ W', ⌜∀ p ∈ W', p ∈ W ∨ p.2 = none⌝ ∗ owes (V d (cV L) (jV L)) O W') := by
  rw [cc0_k_eq_skeleton]; unfold cc0_k_skel
  iintro ⟨#Hmw, Hx, Hi, Ho, Hp, ⟨%b0, Hs0⟩, ⟨%b1, Hs1⟩, ⟨%fd, Hd⟩, ⟨%fa, Ha⟩, ⟨%fn, Hn⟩, Hv4, Hv5, Hv6, Hv7, Hv8, HO⟩
  ihave Hx2 := (pointsTo_share (PosShare.mem_left_op_right q)).1 $$ Hx
  icases Hx2 with ⟨Hx, Hy⟩
  sl_exec (disch := first | exact View.amount_pos _ _ (show 0 < S16000.numel by decide) | exact View.amount_pos _ _ (show 0 < S1528.numel by decide))
  sl_for (inv1 d L (nat1 (n := 8191) fa)) $$ [Ha]
  case region =>
    intro k acc
    exact t1 d L _ _ _ _ k acc
  · unfold inv1
    iapply (pts_eq (vec1_nat1 (n := 8191) fa).symm) $$ Ha
  iintro %acc HI
  unfold inv1
  ihave Ha := (pts_eq (g := vec1 (n := 8192) fun _ => zeroF) ?hz) $$ HI
  case hz =>
    funext y
    have hy : (y 0).val < 8192 := (y 0).isLt
    show (if (y 0).val < 16 * k0_t1_loop.trips then zeroF else _) = zeroF
    exact if_pos (show (y 0).val < 16 * 512 by omega)
  sl_exec
  generalize hiw : (fun k => idw (1500 * wid L - 1500 * wid L % 8 + k)) = iw
  ihave Hd := (pts_eq (g := (vec1 (n := 1528) iw : Buf (Elt F) ((dV).view.loc (V d (cV L) (jV L))))) ?hd) $$ Hd
  case hd =>
    refine (View.write_whole_univ _ _ _).trans ?_
    rw [← hiw]
    exact ids_read L idw
  ihave Hn := (pts_eq (g := (vec1 (n := 64) (fun _ => zeroF) : Buf (Elt F) ((nV).view.loc (V d (cV L) (jV L))))) ?hn) $$ Hn
  case hn => exact cnt_zero (F := F) (nV).view (nV).view.junk
  sl_for (inv2 d L q.left q.right fe O W iw (fun k => (idw k).toNat)) $$ [Hx Hy Hv4 Hv5 Hd Ha Hn HO]
  case region =>
    intro k acc
    exact t2 d L _ _ fe O W _ _ _ k iw (fun k => by rw [← hiw]; exact hid _) _ (fun r => by
      rw [← hiw]
      show (idw (1500 * wid L - 1500 * wid L % 8 + (1500 * wid L % 8 + r))).toNat = _
      rw [show 1500 * wid L - 1500 * wid L % 8 + (1500 * wid L % 8 + r) = 1500 * wid L + r by omega]) acc
  · unfold inv2
    isplitr; · iexact Hmw
    isplitl [Hv4 Hx]
    · rw [show st d L slot0 cc0_scratch4 q.left fe (192000 * wid L) 0 = fly d L slot0 cc0_scratch4 q.left fe (192000 * wid L + 32000 * 0) from if_pos (by decide)]
      iapply (fly_intro d L slot0 cc0_scratch4 q.left fe (k0_off2_inb L 0) (off2_at L 0) b0) $$ [Hv4 Hx]
      isplitl [Hv4]; · iexact Hv4
      iexact Hx
    isplitl [Hv5 Hy]
    · rw [show st d L slot1 cc0_scratch5 q.right fe (192000 * wid L + 16000) 0 = fly d L slot1 cc0_scratch5 q.right fe (192000 * wid L + 16000 + 32000 * 0) from if_pos (by decide)]
      iapply (fly_intro d L slot1 cc0_scratch5 q.right fe (k0_off2_inb L 1) (off2_at L 1) b1) $$ [Hv5 Hy]
      isplitl [Hv5]; · iexact Hv5
      iexact Hy
    isplitl [Hd]; · iexact Hd
    isplitl [Ha Hn]
    · iapply (tot_intro d L _) $$ [Ha Hn]
      isplitl [Ha]; · iexact Ha
      iexact Hn
    · iapply (owing_intro' d L O W W (fun p hp => Or.inl hp) _) $$ HO
  iintro %acc2 HI
  unfold inv2
  icases HI with ⟨-, Hs0, Hs1, Hd, Ht, HO⟩

  ihave Hs0 := (show st d L slot0 cc0_scratch4 q.left fe (192000 * wid L) k0_t2_loop.trips ⊢ _ from st_done d L _ _ _ _ _) $$ Hs0
  ihave Hs1 := (show st d L slot1 cc0_scratch5 q.right fe (192000 * wid L + 16000) k0_t2_loop.trips ⊢ _ from st_done d L _ _ _ _ _) $$ Hs1
  ihave Ht := (tot_elim d L _) $$ Ht
  ihave HO := (owing_elim d L O W) $$ HO
  icases Hs0 with ⟨Hv4, Hs0, Hx⟩
  icases Hs1 with ⟨Hv5, Hs1, Hy⟩
  icases Ht with ⟨Ha, Hn⟩
  icases HO with ⟨%W', %hW', HO⟩
  sl_exec (disch := first | exact View.amount_pos _ _ (show 0 < S8192.numel by decide) | exact View.amount_pos _ _ (show 0 < S64.numel by decide))
  ihave Ho := (Entails.of_eq (pointsTo_congr (o_out d L f0 (fun k => tileSt fe (fun k => (idw k).toNat) k 12 |>.1) _ rfl))) $$ Ho
  ihave Hp := (Entails.of_eq (pointsTo_congr (p_out d L f1 (fun k => tileSt fe (fun k => (idw k).toNat) k 12 |>.2) _ rfl))) $$ Hp
  sl_step
  isplitl [Hx Hy]
  · iapply (pointsTo_share (PosShare.mem_left_op_right q)).2
    isplitl [Hx] <;> iassumption
  isplitl [Hi]; · iexact Hi
  isplitl [Ho]; · iexact Ho
  isplitl [Hp]; · iexact Hp
  isplitl [Hs0]; · iexact Hs0
  isplitl [Hs1]; · iexact Hs1
  isplitl [Hd]; · iexists _; iexact Hd
  isplitl [Ha]; · iexists _; iexact Ha
  isplitl [Hn]; · iexists _; iexact Hn
  isplitl [Hv4]; · iexact Hv4
  isplitl [Hv5]; · iexact Hv5
  isplitl [Hv6]; · iexact Hv6
  isplitl [Hv7]; · iexact Hv7
  isplitl [Hv8]; · iexact Hv8
  iapply (owing_intro d L O W _ (fun p hp => (Finset.mem_insert.mp hp).elim (fun h => Or.inr (h ▸ rfl)) (hW' p)) _) $$ HO

end Cert.Proof.Seg
-- ==== Proof.Tasks.lean ====
/-
  The SparseCore call as the launch sees it: what a tile is handed and hands back, how the arrays come apart into the
  tiles' shares and rows and go together again, and the task's obligation.
-/
module

public import proofs.«01_k».proof.Proof.Tile
public import Idealize.ShloMosaic.Lib.ShareLeaves

@[expose] public section

noncomputable section

namespace Cert.Proof.Seg

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic
open Idealize.ShloMosaic.SparseCore.Cfg (ownSems0 ownBufs ownCells ownRefs mem_ownCells)

variable {F : FTy → Type}

local notation "𝕄" => MT nD τ sig (HIx 1) (Elt F) ℕ UU ℕ
local notation "xV" => (Memref.whole Cert.KernelIdeal.main_v1_scv : Memref Cert.KernelIdeal.sig Kind.scVector Space.hbm Cert.KernelIdeal.S12800000 EltTy.f32)
local notation "iV" => (Memref.whole Cert.KernelIdeal.main_arg1_scv : Memref Cert.KernelIdeal.sig Kind.scVector Space.hbm Cert.KernelIdeal.S100000 EltTy.i32)
local notation "oV" => (Memref.whole Cert.KernelIdeal.main_v3_0_scv : Memref Cert.KernelIdeal.sig Kind.scVector Space.hbm Cert.KernelIdeal.S262144 EltTy.f32)
local notation "pV" => (Memref.whole Cert.KernelIdeal.main_v3_1_scv : Memref Cert.KernelIdeal.sig Kind.scVector Space.hbm Cert.KernelIdeal.S2048 EltTy.f32)
local notation "bV" => (Memref.whole Cert.KernelIdeal.cc0_scratch0 : Memref Cert.KernelIdeal.sig Kind.scVector Space.vmem Cert.KernelIdeal.S2x16000 EltTy.f32)

/-! ## The arrays -/

abbrev xLoc (d : Dev nD) : Loc nD τ sig := (SparseCore.T d).loc main_v1
abbrev iLoc (d : Dev nD) : Loc nD τ sig := (SparseCore.T d).loc main_arg1
abbrev oLoc (d : Dev nD) : Loc nD τ sig := (SparseCore.T d).loc main_v3_0
abbrev pLoc (d : Dev nD) : Loc nD τ sig := (SparseCore.T d).loc main_v3_1

theorem odiv : 32 ∣ S262144.size 0 := ⟨8192, rfl⟩
theorem pdiv : 32 ∣ S2048.size 0 := ⟨64, rfl⟩
/-- Tile `w`'s row of the sums, and of the counts. -/
abbrev oSet (w : Fin 32) : Finset S262144.Idx := (Rect.part (s := S262144) (a₀ := 0) odiv w).set
abbrev pSet (w : Fin 32) : Finset S2048.Idx := (Rect.part (s := S2048) (a₀ := 0) pdiv w).set

/-- The tile of grid coordinates. -/
abbrev wL (L : grid0.Coords) : Fin 32 := ⟨wid L, wid_lt L⟩
/-- The tile of a core and a subcore. -/
def wOf (c i : Nat) (hc : c < 2) (hi : i < 16) : Fin 32 := ⟨2 * i + c, by omega⟩

theorem oRow_set (L : grid0.Coords) : (oRow L).view.set = oSet (wL L) := by
  have h : Rect.unit (s := S262144) (k0_off26 L) S8192.size (k0_off26_inb L) = Rect.part (s := S262144) (a₀ := 0) odiv (wL L) := by
    unfold Rect.part Rect.block
    congr 1 <;> funext a
    · rw [off26_at]
      match a with
      | 0 => simp [Shape.partIx, Shape.partSize, Nat.mul_comm]
    · match a with
      | 0 => simp [Shape.partSize]
  show ((View.whole (main_v3_0_scv : Ref sig .scVector)).slice _).set = _
  rw [View.set_slice, h]; exact Finset.map_refl

theorem pRow_set (L : grid0.Coords) : (pRow L).view.set = pSet (wL L) := by
  have h : Rect.unit (s := S2048) (k0_off27 L) S64.size (k0_off27_inb L) = Rect.part (s := S2048) (a₀ := 0) pdiv (wL L) := by
    unfold Rect.part Rect.block
    congr 1 <;> funext a
    · rw [off27_at]
      match a with
      | 0 => simp [Shape.partIx, Shape.partSize, Nat.mul_comm]
    · match a with
      | 0 => simp [Shape.partSize]
  show ((View.whole (main_v3_1_scv : Ref sig .scVector)).slice _).set = _
  rw [View.set_slice, h]; exact Finset.map_refl

/-- The whole array of the sums is the tiles' rows. -/
theorem oPts_rows (d : Dev nD) (f : Buf (Elt F) (oLoc d)) :
    (oLoc d ↦{fullShare} f : sProp 𝕄) = bigSep Finset.univ fun w : Fin 32 => oLoc d ↦[oSet w]{fullShare} f := by
  rw [← pointsTo_biUnion Finset.univ (ℓ := oLoc d) oSet fun i _ j _ h => Rect.part_disjoint odiv h, Rect.biUnion_part odiv]

theorem pPts_rows (d : Dev nD) (f : Buf (Elt F) (pLoc d)) :
    (pLoc d ↦{fullShare} f : sProp 𝕄) = bigSep Finset.univ fun w : Fin 32 => pLoc d ↦[pSet w]{fullShare} f := by
  rw [← pointsTo_biUnion Finset.univ (ℓ := pLoc d) pSet fun i _ j _ h => Rect.part_disjoint pdiv h, Rect.biUnion_part pdiv]

/-- Tile `w`'s read share. -/
abbrev qw (w : Fin 32) : PosShare TreeShare := ShareLeaves.leaf 5 fullShare w

/-! ## What a tile is handed -/

section Pay

variable [FloatOps F] (fe : Dev nD → Nat → F .f32) (idw : Dev nD → Nat → BitVec 32)
  (f0 : (d : Dev nD) → Buf (Elt F) (oLoc d)) (f1 : (d : Dev nD) → Buf (Elt F) (pLoc d))

/-- Tile `w`'s piece, the results at `g0` and `g1`. -/
def piece (d : Dev nD) (g0 : Buf (Elt F) (oLoc d)) (g1 : Buf (Elt F) (pLoc d)) (w : Fin 32) : sProp 𝕄 :=
  iprop((xLoc d ↦{qw w} (vec1 (n := 12800000) (fe d) : Buf (Elt F) (xLoc d))) ∗ (iLoc d ↦{qw w} (vec1 (n := 100000) (idw d) : Buf (Elt F) (iLoc d)))
    ∗ (oLoc d ↦[oSet w]{fullShare} g0) ∗ (pLoc d ↦[pSet w]{fullShare} g1))

/-- The four arrays whole. -/
def whole4 (d : Dev nD) (g0 : Buf (Elt F) (oLoc d)) (g1 : Buf (Elt F) (pLoc d)) : sProp 𝕄 :=
  iprop((xLoc d ↦{fullShare} (vec1 (n := 12800000) (fe d) : Buf (Elt F) (xLoc d))) ∗ (iLoc d ↦{fullShare} (vec1 (n := 100000) (idw d) : Buf (Elt F) (iLoc d)))
    ∗ (oLoc d ↦{fullShare} g0) ∗ (pLoc d ↦{fullShare} g1))

omit [FloatOps F] in
theorem whole4_eq (d : Dev nD) (g0 : Buf (Elt F) (oLoc d)) (g1 : Buf (Elt F) (pLoc d)) :
    whole4 fe idw d g0 g1 = bigSep Finset.univ (piece fe idw d g0 g1) := by
  have hx : (xLoc d ↦{fullShare} (vec1 (n := 12800000) (fe d) : Buf (Elt F) (xLoc d)) : sProp 𝕄)
      = bigSep Finset.univ fun w : Fin 32 => xLoc d ↦{qw w} (vec1 (n := 12800000) (fe d) : Buf (Elt F) (xLoc d)) := ShareLeaves.pointsTo_leaves Finset.univ _ 5 fullShare
  have hi : (iLoc d ↦{fullShare} (vec1 (n := 100000) (idw d) : Buf (Elt F) (iLoc d)) : sProp 𝕄)
      = bigSep Finset.univ fun w : Fin 32 => iLoc d ↦{qw w} (vec1 (n := 100000) (idw d) : Buf (Elt F) (iLoc d)) := ShareLeaves.pointsTo_leaves Finset.univ _ 5 fullShare
  unfold piece whole4
  rw [bigSep_sep', bigSep_sep', bigSep_sep', ← oPts_rows, ← pPts_rows, hx, hi]

omit [FloatOps F] in
/-- Over the tiles is over the cores and their subcores. -/
theorem tiles_eq (Φ : Fin 32 → sProp 𝕄) :
    bigSep Finset.univ Φ = bigSep Finset.univ fun c : Fin 2 => bigSep Finset.univ fun i : Fin 16 => Φ (wOf c.val i.val c.isLt i.isLt) := by
  let e : Fin 2 × Fin 16 ≃ Fin 32 := (Equiv.prodComm _ _).trans (finProdFinEquiv (m := 16) (n := 2))
  rw [bigSep_univ_equiv e, ← Finset.univ_product_univ, SparseCore.bigSep_product]
  refine bigSep_congr fun c _ => bigSep_congr fun i _ => congrArg Φ (Fin.ext ?_)
  show c.val + 2 * i.val = 2 * i.val + c.val
  omega

/-- What goes to a tile, and what it brings back. -/
abbrev goP (d : Dev nD) (w : Fin 32) : sProp 𝕄 := piece fe idw d (f0 d) (f1 d) w
abbrev tdP (d : Dev nD) (w : Fin 32) : sProp 𝕄 :=
  piece fe idw d (res0 (fe d) fun k => (idw d k).toNat) (res1 (fe d) fun k => (idw d k).toNat) w

/-- The one call's payloads. -/
def P : (K (F := F)).Pay (nD := nD) (Val := Elt F) (Name := ℕ) (U := UU) where
  st := fun q d c => match q with
    | 0 => bigSep Finset.univ fun i : Fin 16 => goP fe idw f0 f1 d (wOf c.val i.val c.isLt i.isLt)
  dn := fun q d c => match q with
    | 0 => bigSep Finset.univ fun i : Fin 16 => tdP fe idw d (wOf c.val i.val c.isLt i.isLt)
  go := fun q d c i => match q with
    | 0 => goP fe idw f0 f1 d (wOf c.val i.val c.isLt i.isLt)
  td := fun q d c i => match q with
    | 0 => tdP fe idw d (wOf c.val i.val c.isLt i.isLt)
  x := fun _ _ => iprop(emp)

instance piece_storable (d : Dev nD) (g0 : Buf (Elt F) (oLoc d)) (g1 : Buf (Elt F) (pLoc d)) (w : Fin 32) :
    BI.Storable (upEmb : UEmb _ 𝕄) (piece fe idw d g0 g1 w) := by
  unfold piece; infer_instance

instance P_storable : (P fe idw f0 f1).IsStorable where
  st q d c := match q with
    | 0 => (inferInstance : BI.Storable (upEmb : UEmb _ 𝕄) (bigSep Finset.univ fun i : Fin 16 => goP fe idw f0 f1 d (wOf c.val i.val c.isLt i.isLt)))
  dn q d c := match q with
    | 0 => (inferInstance : BI.Storable (upEmb : UEmb _ 𝕄) (bigSep Finset.univ fun i : Fin 16 => tdP fe idw d (wOf c.val i.val c.isLt i.isLt)))
  go q d c i := match q with
    | 0 => (inferInstance : BI.Storable (upEmb : UEmb _ 𝕄) (goP fe idw f0 f1 d (wOf c.val i.val c.isLt i.isLt)))
  td q d c i := match q with
    | 0 => (inferInstance : BI.Storable (upEmb : UEmb _ 𝕄) (tdP fe idw d (wOf c.val i.val c.isLt i.isLt)))

/-- The call's operands on all cores are the four arrays whole; so are its results. -/
theorem st0_eq (d : Dev nD) : (bigSep Finset.univ fun c : Fin ((K (F := F)).nCore 0) => (P fe idw f0 f1).st 0 d c) = whole4 fe idw d (f0 d) (f1 d) :=
  ((whole4_eq fe idw d _ _).trans (tiles_eq _)).symm
theorem dn0_eq (d : Dev nD) : (bigSep Finset.univ fun c : Fin ((K (F := F)).nCore 0) => (P fe idw f0 f1).dn 0 d c)
    = whole4 fe idw d (res0 (fe d) fun k => (idw d k).toNat) (res1 (fe d) fun k => (idw d k).toNat) :=
  ((whole4_eq fe idw d _ _).trans (tiles_eq _)).symm

theorem vecSplit : (K (F := F)).VecSplit' (P fe idw f0 f1) 0 := by
  intro d c
  show (bigSep Finset.univ fun i : Fin 16 => goP fe idw f0 f1 d (wOf c.val i.val c.isLt i.isLt)) ⊢ |={Set.univ}=> iprop(
      (bigSep Finset.univ fun i : Fin 16 => goP fe idw f0 f1 d (wOf c.val i.val c.isLt i.isLt))
      ∗ ((bigSep Finset.univ fun i : Fin 16 => tdP fe idw d (wOf c.val i.val c.isLt i.isLt)) -∗ (bigSep Finset.univ fun i : Fin 16 => tdP fe idw d (wOf c.val i.val c.isLt i.isLt))))
  iintro H; imodintro
  isplitl [H]; · iexact H
  iintro H; iexact H

/-! ## The task -/

section Tile

variable (d : Dev nD) (L : grid0.Coords)

abbrev cell (s : DmaSem sig) : GSem nD τ sig := (V d (cV L) (jV L), .dma s)

omit [FloatOps F] in
/-- A subcore's own semaphores: the five the task uses, and the rest. -/
theorem ownSems0_V :
    (ownSems0 (V d (cV L) (jV L)) : sProp 𝕄)
      = iprop(semVal (cell d L cc0_scratch4.sem) 0 ∗ semVal (cell d L cc0_scratch5.sem) 0 ∗ semVal (cell d L cc0_scratch6.sem) 0
          ∗ semVal (cell d L cc0_scoped0.sem) 0 ∗ semVal (cell d L cc0_scoped1.sem) 0
          ∗ bigSep ((((((ownCells (V d (cV L) (jV L))).erase (cell d L cc0_scratch4.sem)).erase (cell d L cc0_scratch5.sem)).erase (cell d L cc0_scratch6.sem)).erase (cell d L cc0_scoped0.sem)).erase (cell d L cc0_scoped1.sem))
              fun g => semVal g 0) := by
  have ne (s s' : DmaSem sig) (h : s ≠ s') : cell d L s ≠ cell d L s' := fun e => h (SemLoc.dma.inj (Prod.mk.inj e).2)
  have own (s : DmaSem sig) (h : (SemLoc.dma s : SemLoc sig).isScoped .scVector = true) : cell d L s ∈ ownCells (V d (cV L) (jV L)) :=
    mem_ownCells.mpr ⟨rfl, h⟩
  unfold SparseCore.Cfg.ownSems0
  rw [SparseCore.bigSep_erase' (own cc0_scratch4.sem (by decide)),
    SparseCore.bigSep_erase' (Finset.mem_erase.mpr ⟨ne cc0_scratch5.sem _ (by decide), own _ (by decide)⟩),
    SparseCore.bigSep_erase' (Finset.mem_erase.mpr ⟨ne cc0_scratch6.sem _ (by decide), Finset.mem_erase.mpr ⟨ne cc0_scratch6.sem _ (by decide), own _ (by decide)⟩⟩),
    SparseCore.bigSep_erase' (Finset.mem_erase.mpr ⟨ne cc0_scoped0.sem _ (by decide), Finset.mem_erase.mpr ⟨ne cc0_scoped0.sem _ (by decide),
      Finset.mem_erase.mpr ⟨ne cc0_scoped0.sem _ (by decide), own _ (by decide)⟩⟩⟩),
    SparseCore.bigSep_erase' (Finset.mem_erase.mpr ⟨ne cc0_scoped1.sem _ (by decide), Finset.mem_erase.mpr ⟨ne cc0_scoped1.sem _ (by decide),
      Finset.mem_erase.mpr ⟨ne cc0_scoped1.sem _ (by decide), Finset.mem_erase.mpr ⟨ne cc0_scoped1.sem _ (by decide), own _ (by decide)⟩⟩⟩⟩)]

abbrev buf (b : Ref sig .scVector) : DevRef τ sig := (Proc.scVector (cV L) (jV L)).devRef b

omit [FloatOps F] in
/-- A subcore's own buffers: the four the task uses, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (buf L cc0_scratch0)).erase (buf L cc0_scratch1)).erase (buf L cc0_scratch2)).erase (buf L cc0_scratch3))
              fun b => iprop(∃ f, ((d, b) : Loc nD τ sig) ↦{fullShare} f)) := by
  have ne (b b' : Ref sig .scVector) (h : b ≠ b') : buf L b ≠ buf L b' := fun e => h (Proc.devRef_injective _ e)
  have own (b : Ref sig .scVector) (h : (buf L b).owner = .proc (.scVector (cV L) (jV L))) : buf L b ∈ ownRefs (τ := τ) (.scVector (cV L) (jV L)) :=
    SparseCore.Cfg.mem_ownRefs_of_owner (p := Proc.scVector (cV L) (jV L)) h
  unfold SparseCore.Cfg.ownBufs
  refine (SparseCore.bigSep_erase' (own cc0_scratch0 rfl)).trans ?_
  rw [SparseCore.bigSep_erase' (Finset.mem_erase.mpr ⟨ne cc0_scratch1 _ (by decide), own _ rfl⟩),
    SparseCore.bigSep_erase' (Finset.mem_erase.mpr ⟨ne cc0_scratch2 _ (by decide), Finset.mem_erase.mpr ⟨ne cc0_scratch2 _ (by decide), own _ rfl⟩⟩),
    SparseCore.bigSep_erase' (Finset.mem_erase.mpr ⟨ne cc0_scratch3 _ (by decide), Finset.mem_erase.mpr ⟨ne cc0_scratch3 _ (by decide),
      Finset.mem_erase.mpr ⟨ne cc0_scratch3 _ (by decide), own _ rfl⟩⟩⟩)]

theorem bdiv : 2 ∣ S2x16000.size 0 := ⟨1, rfl⟩
/-- The slots of the features' buffer, as its rows. -/
abbrev bSet (j : Fin 2) : Finset S2x16000.Idx := (Rect.part (s := S2x16000) (a₀ := 0) bdiv j).set

theorem slot_set (off : Fin 2 → Nat) (inb : ∀ a, off a + S1x16000.size a ≤ S2x16000.size a) (j : Fin 2) (h : off = ![j.val, 0]) :
    (((bV).slice (Rect.unit (s := S2x16000) off S1x16000.size inb) (fun _ => rfl)).squeeze S16000 squeezes_S1x16000_S16000).view.set = bSet j := by
  subst h
  have h : Rect.unit (s := S2x16000) ![j.val, 0] S1x16000.size inb = Rect.part (s := S2x16000) (a₀ := 0) bdiv j := by
    unfold Rect.part Rect.block
    congr 1 <;> funext a
    · match a with
      | 0 => simp [Shape.partIx, Shape.partSize]
      | 1 => simp [Shape.partIx, Shape.partSize]
    · match a with
      | 0 => simp [Shape.partSize]
      | 1 => simp [Shape.partSize]
  show (((View.whole (cc0_scratch0 : Ref sig .scVector)).slice (Rect.unit (s := S2x16000) ![j.val, 0] S1x16000.size inb)).reshape S16000 squeezes_S1x16000_S16000.numel_eq).set = _
  rw [View.set_reshape, View.set_slice]; exact Finset.map_refl.trans (congrArg (fun r : Rect S2x16000 => r.set) h)

omit [FloatOps F] in
/-- The features' buffer is its two slots. -/
theorem slots_split (f : Buf (Elt F) ((V d (cV L) (jV L)).loc cc0_scratch0)) :
    ((V d (cV L) (jV L)).loc cc0_scratch0 ↦{fullShare} f : sProp 𝕄)
      ⊢ iprop((∃ f, slot0.view.loc (V d (cV L) (jV L)) ↦[slot0.view.set]{fullShare} f) ∗ (∃ f, slot1.view.loc (V d (cV L) (jV L)) ↦[slot1.view.set]{fullShare} f)) := by
  have e : ((V d (cV L) (jV L)).loc cc0_scratch0 ↦{fullShare} f : sProp 𝕄)
      = bigSep Finset.univ fun j : Fin 2 => ((V d (cV L) (jV L)).loc cc0_scratch0 ↦[bSet j]{fullShare} f : sProp 𝕄) := by
    rw [← pointsTo_biUnion Finset.univ (ℓ := (V d (cV L) (jV L)).loc cc0_scratch0) bSet fun i _ j _ h => Rect.part_disjoint bdiv h, Rect.biUnion_part bdiv]
  rw [e, bigSep_univ_eq_bigSepL [(0 : Fin 2), (1 : Fin 2)] (by decide) (by decide), show slot0.view.set = bSet 0 from slot_set _ _ 0 rfl,
    show slot1.view.set = bSet 1 from slot_set _ _ 1 rfl]
  show iprop(((V d (cV L) (jV L)).loc cc0_scratch0 ↦[bSet 0]{fullShare} f) ∗ ((V d (cV L) (jV L)).loc cc0_scratch0 ↦[bSet 1]{fullShare} f)) ⊢ _
  iintro ⟨H0, H1⟩
  isplitl [H0]
  · iexists f; iexact H0
  · iexists f; iexact H1

omit [FloatOps F] in
theorem slots_join :
    iprop((∃ f, slot0.view.loc (V d (cV L) (jV L)) ↦[slot0.view.set]{fullShare} f) ∗ (∃ f, slot1.view.loc (V d (cV L) (jV L)) ↦[slot1.view.set]{fullShare} f))
      ⊢ (iprop(∃ f, (V d (cV L) (jV L)).loc cc0_scratch0 ↦{fullShare} f) : sProp 𝕄) := by
  rw [show slot0.view.set = bSet 0 from slot_set _ _ 0 rfl, show slot1.view.set = bSet 1 from slot_set _ _ 1 rfl]
  iintro ⟨⟨%f0, H0⟩, ⟨%f1, H1⟩⟩
  ihave H := (show iprop(((V d (cV L) (jV L)).loc cc0_scratch0 ↦[bSet 0]{fullShare} f0) ∗ ((V d (cV L) (jV L)).loc cc0_scratch0 ↦[bSet 1]{fullShare} f1))
      ⊢ (bigSep Finset.univ fun j : Fin 2 => ((V d (cV L) (jV L)).loc cc0_scratch0 ↦[bSet j]{fullShare} (![f0, f1] j : Buf (Elt F) ((V d (cV L) (jV L)).loc cc0_scratch0)) : sProp 𝕄)) by
    rw [bigSep_univ_eq_bigSepL [(0 : Fin 2), (1 : Fin 2)] (by decide) (by decide)]; exact Entails.rfl) $$ [H0 H1]
  · isplitl [H0] <;> iassumption
  ihave H' := (pointsTo_biUnion_join (ℓ := (V d (cV L) (jV L)).loc cc0_scratch0) (q := fullShare) (Val := Elt F) Finset.univ bSet _ f0 fun i _ j _ h => Rect.part_disjoint bdiv h) $$ H
  icases H' with ⟨%g, -, Hg⟩
  rw [Rect.biUnion_part bdiv]
  iexists g; iexact Hg

set_option maxHeartbeats 1000000 in
/-- The task on a subcore: from its piece to its piece with the results in, its own buffers and semaphores kept. -/
theorem tile_body (hid : ∀ d k, (idw d k).toNat < 64) (O : CellTallies nD τ sig (HIx 1)) (W : Waits sig (HIx 1)) (hO : ∀ g, O g none = 0) :
    iprop(levAts (K (F := F)).L (K (F := F)).lev ∗ emp ∗ goP fe idw f0 f1 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k (F := F) L (Memref.whole main_v1_scv) (Memref.isWhole_whole _) (Memref.whole main_arg1_scv) (Memref.isWhole_whole _) (Memref.whole main_v3_0_scv) (Memref.isWhole_whole _) (Memref.whole main_v3_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1)
          fun _ => iprop(tdP fe idw d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V facts d (cV L) (jV L), SparseCore.Cfg.scopedSems0_V (Val := Elt F) d (cV L) (jV L), ownSems0_V, ownBufs_V]
  unfold goP tdP piece
  rw [← oRow_set, ← pRow_set]
  iintro ⟨#Hlv, -, ⟨Hx, Hi, Ho, Hp⟩, ⟨⟨%fb, Hb⟩, Hd, Ha, Hn, Hbufs⟩, ⟨Hv4, Hv5, Hv6, Hv7, Hv8, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Hs := (slots_split d L fb) $$ Hb
  icases Hs with ⟨Hs0, Hs1⟩
  iapply (wp_wand_r frame _ Set.univ)
  isplitl [Hx Hi Ho Hp Hs0 Hs1 Hd Ha Hn Hv4 Hv5 Hv6 Hv7 Hv8 HO]
  · iapply (tile_run d L (qw (wL L)) (qw (wL L)) (fe d) (idw d) (hid d) O W (f0 d) (f1 d))
    isplitr; · iexact Hmw
    isplitl [Hx]; · iexact Hx
    isplitl [Hi]; · iexact Hi
    isplitl [Ho]; · iexact Ho
    isplitl [Hp]; · iexact Hp
    isplitl [Hs0]; · iexact Hs0
    isplitl [Hs1]; · iexact Hs1
    isplitl [Hd]; · iexact Hd
    isplitl [Ha]; · iexact Ha
    isplitl [Hn]; · iexact Hn
    isplitl [Hv4]; · iexact Hv4
    isplitl [Hv5]; · iexact Hv5
    isplitl [Hv6]; · iexact Hv6
    isplitl [Hv7]; · iexact Hv7
    isplitl [Hv8]; · iexact Hv8
    iexact HO
  iintro %_ ⟨Hx, Hi, Ho, Hp, Hs0, Hs1, Hd, Ha, Hn, Hv4, Hv5, Hv6, Hv7, Hv8, HO⟩
  isplitl [Hx Hi Ho Hp]
  · isplitl [Hx]; · iexact Hx
    isplitl [Hi]; · iexact Hi
    isplitl [Ho]; · iexact Ho
    iexact Hp
  isplitl [Hs0 Hs1 Hd Ha Hn Hbufs]
  · isplitl [Hs0 Hs1]
    · iapply (slots_join d L)
      isplitl [Hs0] <;> iassumption
    isplitl [Hd]; · iexact Hd
    isplitl [Ha]; · iexact Ha
    isplitl [Hn]; · iexact Hn
    iexact Hbufs
  isplitl [Hv4 Hv5 Hv6 Hv7 Hv8 Hsems]
  · isplitl [Hv4]; · iexact Hv4
    isplitl [Hv5]; · iexact Hv5
    isplitl [Hv6]; · iexact Hv6
    isplitl [Hv7]; · iexact Hv7
    isplitl [Hv8]; · iexact Hv8
    iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (F := F) (coordsV c s) (Memref.whole main_v1_scv) (Memref.isWhole_whole _) (Memref.whole main_arg1_scv) (Memref.isWhole_whole _) (Memref.whole main_v3_0_scv) (Memref.isWhole_whole _) (Memref.whole main_v3_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The call's task meets what the launch asks of it. -/
theorem tileObl (hid : ∀ d k, (idw d k).toNat < 64) : (K (F := F)).TileObl (D (F := F)) 𝒱 (P fe idw f0 f1) v₀ 0 := by
  intro d c i O W hO _ _
  simp only [show (P fe idw f0 f1).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fe idw f0 f1 d (coordsV ⟨_, hci.1⟩ ⟨_, hci.2⟩) hid O W hO).trans (wp_mono frame _ _ fun _ => obl_post)

end Tile

end Pay

end Cert.Proof.Seg
-- ==== Proof.Launch.lean ====
/-
  The program's run on the TensorCore: three reshapes, the SparseCore call, the block kernel, two reshapes, the last
  kernel; and from the launch theorem, what the program leaves in its arguments and its result.
-/
module

public import proofs.«01_k».proof.Proof.Region2
public import proofs.«01_k».proof.Proof.Tasks

@[expose] public section

noncomputable section

namespace Cert.Proof.Seg

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI Idealize.SL.Sem
open scoped Idealize.SL.BI
open Idealize.SL.BI.BIBase Idealize.SL.BI.Laws Idealize.SL.ProofMode
open Idealize.ShloMosaic.Rounds

variable {F : FTy → Type} [FloatOps F] [∀ e, Nonempty (Elt F e)]

local notation "𝕄" => MT nD τ sig (HIx 1) (Elt F) ℕ UU ℕ

/-! ## The steps of @main -/

/-- A reshape on the host, from its operand and its result's buffer. -/
theorem wp_reshape (d : Dev nD) (x y : Ref sig .tc) (he : x.ty.elt = y.ty.elt) (hn : x.ty.shape.ShapeCasts y.ty.shape)
    (hx : x.space ≠ .host ∧ (x : DevRef τ sig).isScoped = false) (hy : y.space ≠ .host ∧ (y : DevRef τ sig).isScoped = false)
    (hxy : x ≠ y) (fx : Buf (Elt F) ((d : Thread nD τ).loc x)) (fy : Buf (Elt F) ((d : Thread nD τ).loc y)) (Q : PUnit → sProp 𝕄) :
    iprop(boundary (SparseCore.T d) ∗ bt d x fx ∗ bt d y fy
        ∗ ((boundary (SparseCore.T d) ∗ bt d x fx ∗ bt d y (fun i => he ▸ shapeCast y.ty.shape fx hn i)) -∗ Q ⟨⟩))
      ⊢ wp frame (wpE ((K (F := F)).defs (D (F := F))) 𝒱 (SparseCore.T d) none) Set.univ (hlo rfl (StableHlo.reshape x y he hn hx hy) (fun _ => .ret ⟨⟩)) Q := by
  classical
  let W : Valuation τ sig (Elt F) :=
    Function.update (Function.update (fun _ => fun _ => Classical.arbitrary _) (Proc.devRef .tc x) fx) (Proc.devRef .tc y) fy
  have hne : (Proc.devRef .tc x : DevRef τ sig) ≠ Proc.devRef .tc y := StableHlo.devRef_ne_of_ne hxy
  have hWy : W (Proc.devRef .tc y) = fy := Function.update_self ..
  have hWx : W (Proc.devRef .tc x) = fx := (Function.update_of_ne hne _ _).trans (Function.update_self ..)
  have h := wp_hlo (defs := ((K (F := F)).defs (D (F := F)))) (𝒱 := 𝒱) (c := SparseCore.T d) (bd := none) (Γ := .empty) (E := Set.univ) (hp := rfl) (op := StableHlo.reshape x y he hn hx hy)
    (k := fun _ => .ret ⟨⟩) (q := fun _ => fullShare) (F := W) (Q := Q) (fun _ _ => rfl)
  rw [StableHlo.reshape_bufs, SparseCore.bigSep_insert' (by rwa [Finset.mem_singleton]), bigSep_singleton,
    SparseCore.bigSep_insert' (by rwa [Finset.mem_singleton]), bigSep_singleton,
    StableHlo.reshape_result', StableHlo.reshape_result_ne _ _ _ _ _ _ _ hxy, hWy, hWx] at h
  simp only [wp_ret] at h
  iintro ⟨Hb, Hx, Hy, Hk⟩
  iapply h $$ [Hb Hx Hy]
  · isplitl [Hb]; · iexact Hb
    isplitl [Hx]; · iexact Hx
    iexact Hy
  iintro ⟨Hb, Hx, Hy⟩
  imodintro
  iapply Hk
  isplitl [Hb]; · iexact Hb
  isplitl [Hx]; · iexact Hx
  iexact Hy

/-- The core's state after the SparseCore call: nothing owed, the rest set by. -/
theorem tcSt_open (d : Dev nD) : ((K (F := F)).tcSt EH d 1 : sProp 𝕄) ⊢ iprop(owe0 d ∗ (owe0 d -∗ (K (F := F)).tcSt EH d 1)) := by
  unfold SparseCore.Cfg.tcSt
  rw [(K (F := F)).Otc_end d (le_refl 1)]
  iintro ⟨HO, HR⟩
  isplitl [HO]
  · unfold owe0
    icases HO with ⟨%W, %hW, HO⟩
    iexists W; isplitr; · ipureintro; exact fun p hp => hW p hp
    iexact HO
  iintro HO
  isplitl [HO]
  · unfold owe0
    icases HO with ⟨%W, %hW, HO⟩
    iexists W; isplitr; · ipureintro; exact fun p hp => hW hp
    iexact HO
  iexact HR

/-- What a pipeline's region takes from the launch's ghost state. -/
def gh (p : Fin 2) (d : Dev nD) : sProp 𝕄 :=
  iprop(Pipeline.cellsGhost (Pipeline.pin (pcfgs (F := F)) adm) EP p d ∗ Pipeline.toksInit (Pipeline.pin (pcfgs (F := F)) adm) EP p d)

/-- A pipeline's call in @main, by its region. -/
theorem wp_region {p : Fin 2} {pdats : (p : Fin 2) → (c : Dev nD) → Pipeline.Dat τ (Elt F) (HIx 1) ℕ UU ℕ (Pipeline.pin (pcfgs (F := F)) adm p) c}
    (R : Pipeline.RegionSeg (pcfgs (F := F)) adm pdats none defs₀ 𝒱₀ (K (F := F)).L (K (F := F)).lev p) (d : Dev nD) (Q : PUnit → sProp 𝕄) :
    iprop(boundary (SparseCore.T d) ∗ R.pre d ∗ levAts (K (F := F)).L (K (F := F)).lev ∗ gh p d
        ∗ ((boundary (SparseCore.T d) ∗ R.post d) -∗ Q ⟨⟩))
      ⊢ wp frame (wpE ((K (F := F)).defs (D (F := F))) 𝒱 (SparseCore.T d) none) Set.univ (Prog.lift (.customCall (SparseCore.inner (Pipeline.entry p)) ())) Q := by
  have h := Pipeline.RegionSeg.wp (pcfgs (F := F)) adm pdats none cellOf_inj EP defs₀ 𝒱₀ (K (F := F)).L (K (F := F)).lev R d none
    (fun u hu => nomatch hu) (fun _ => .ret ⟨⟩) Q
  have h2 := (K (F := F)).wp_liftProg (D (F := F)) 𝒱 (SparseCore.T d) Set.univ none (.op (.customCall (Pipeline.entry p) ()) fun _ => .ret ⟨⟩) Q
  rw [wp_ret] at h
  have hA : iprop(boundary (SparseCore.T d) ∗ R.pre d ∗ levAts (K (F := F)).L (K (F := F)).lev ∗ gh p d ∗ ((boundary (SparseCore.T d) ∗ R.post d) -∗ Q ⟨⟩))
      ⊢ (iprop((iprop(boundary (d : Thread nD τ) ∗ R.post d) -∗ |={Set.univ}=> Q ⟨⟩)
        ∗ boundary (d : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d) : sProp 𝕄) := by
    unfold gh
    iintro ⟨Hb, Hp, HL, ⟨Hg, Ht⟩, Hk⟩
    isplitl [Hk]
    · iintro H
      imodintro
      iapply Hk; iexact H
    isplitl [Hb]; · iexact Hb
    isplitl [Hp]; · iexact Hp
    isplitl [HL]; · iexact HL
    isplitl [Hg]; · iexact Hg
    iexact Ht
  exact hA.trans (h.trans h2)

/-- The regions' ends, by name. -/
theorem reg1_pre (d : Dev nD) (a0 : main_v2.ty.Contents (Elt F)) (a1 : main_v0.ty.Contents (Elt F)) (a2 : main_v4_0.ty.Contents (Elt F)) (a3 : main_v4_1.ty.Contents (Elt F)) :
    iprop((bt d main_v2 a0 ∗ bt d main_v0 a1 ∗ bt d main_v4_0 a2 ∗ bt d main_v4_1 a3) ∗ owe0 d) ⊢ (reg1 a0 a1 a2 a3).pre d := .rfl
theorem reg1_post (d : Dev nD) (a0 : main_v2.ty.Contents (Elt F)) (a1 : main_v0.ty.Contents (Elt F)) (a2 : main_v4_0.ty.Contents (Elt F)) (a3 : main_v4_1.ty.Contents (Elt F)) :
    (reg1 a0 a1 a2 a3).post d ⊢ iprop((bt d main_v2 a0 ∗ bt d main_v0 a1 ∗ bt d main_v4_0 (fin2 a0 a1) ∗ bt d main_v4_1 (fin3 a0)) ∗ owe0 d) := .rfl
theorem reg2_pre (d : Dev nD) (a0 : main_v5.ty.Contents (Elt F)) (a1 : main_v6.ty.Contents (Elt F)) (a2 : main_v4_0.ty.Contents (Elt F)) (a3 : main_v4_1.ty.Contents (Elt F))
    (a4 : main_v7.ty.Contents (Elt F)) :
    iprop((bt d main_v5 a0 ∗ bt d main_v6 a1 ∗ bt d main_v4_0 a2 ∗ bt d main_v4_1 a3 ∗ bt d main_v7 a4) ∗ owe0 d) ⊢ (reg2 a0 a1 a2 a3 a4).pre d := .rfl
theorem reg2_post (d : Dev nD) (a0 : main_v5.ty.Contents (Elt F)) (a1 : main_v6.ty.Contents (Elt F)) (a2 : main_v4_0.ty.Contents (Elt F)) (a3 : main_v4_1.ty.Contents (Elt F))
    (a4 : main_v7.ty.Contents (Elt F)) :
    (reg2 a0 a1 a2 a3 a4).post d ⊢ iprop((bt d main_v5 a0 ∗ bt d main_v6 a1 ∗ bt d main_v4_0 a2 ∗ bt d main_v4_1 a3 ∗ bt d main_v7 (k2_pay1 a0 a2 a1 a3)) ∗ owe0 d) := .rfl

/-! ## What the program computes -/

section Values

variable (A0 : main_arg0.ty.Contents (Elt F)) (A1 : main_arg1.ty.Contents (Elt F))

/-- The rows as a matrix, and flat; the segment numbers in blocks of 2000. -/
def x0 : main_v0.ty.Contents (Elt F) := shapeCast S100000x128 A0 shapeCasts_S100000x128x1_S100000x128
def x1 : main_v1.ty.Contents (Elt F) := shapeCast S12800000 A0 shapeCasts_S100000x128x1_S12800000
def x2 : main_v2.ty.Contents (Elt F) := shapeCast S50x1x2000 A1 shapeCasts_S100000_S50x1x2000
/-- The flat rows and the segment numbers by index. -/
def feA : Nat → F .f32 := nat1 (n := 12799999) (x1 A0)
def idA : Nat → BitVec 32 := nat1 (n := 99999) A1
/-- The tiles' sums and counts. -/
def r0 : main_v3_0.ty.Contents (Elt F) := res0 (feA A0) fun k => (idA (F := F) A1 k).toNat
def r1 : main_v3_1.ty.Contents (Elt F) := res1 (feA A0) fun k => (idA (F := F) A1 k).toNat
def x5 : main_v5.ty.Contents (Elt F) := shapeCast S32x64x128 (r0 A0 A1) shapeCasts_S262144_S32x64x128
def x6 : main_v6.ty.Contents (Elt F) := shapeCast S32x64 (r1 A0 A1) shapeCasts_S2048_S32x64
/-- The result. -/
def outA : main_v7.ty.Contents (Elt F) := k2_pay1 (x5 A0 A1) (fin2 (x2 A1) (x0 A0)) (x6 A0 A1) (fin3 (x2 A1))

end Values

/-! ## @main -/

section Main

variable (m : (ℓ : Loc nD τ sig) → Buf (Elt F) ℓ) (ρ : Dev nD → PrngReg)

/-- The arguments' launch contents. -/
abbrev A0 (d : Dev nD) : main_arg0.ty.Contents (Elt F) := m ((SparseCore.T d).loc main_arg0)
abbrev A1 (d : Dev nD) : main_arg1.ty.Contents (Elt F) := m ((SparseCore.T d).loc main_arg1)

/-- The payloads of the SparseCore call at this launch. -/
abbrev PP := P (fun d => feA (A0 m d)) (fun d => idA (F := F) (A1 m d)) (fun d => m (oLoc d)) (fun d => m (pLoc d))

/-- What the program leaves: the arguments as they were, the result computed. -/
def FIN (d : Dev nD) : sProp 𝕄 := iprop(bt d main_arg0 (A0 m d) ∗ bt d main_arg1 (A1 m d) ∗ bt d main_v7 (outA (A0 m d) (A1 m d)))

/-- Both pipelines' ghost state. -/
def G (d : Dev nD) : sProp 𝕄 := iprop(gh 0 d ∗ gh 1 d)

theorem unscopedBufs_eq (d : Dev nD) (W : (b : Ref sig .tc) → Buf (Elt F) ((d.tc : Thread nD τ).loc b)) :
    (unscopedBufs d W : sProp 𝕄) = iprop(bt d main_arg0 (W main_arg0) ∗ bt d main_arg1 (W main_arg1) ∗ bt d main_v0 (W main_v0) ∗ bt d main_v1 (W main_v1)
      ∗ bt d main_v2 (W main_v2) ∗ bt d main_v3_0 (W main_v3_0) ∗ bt d main_v3_1 (W main_v3_1) ∗ bt d main_v4_0 (W main_v4_0) ∗ bt d main_v4_1 (W main_v4_1)
      ∗ bt d main_v5 (W main_v5) ∗ bt d main_v6 (W main_v6) ∗ bt d main_v7 (W main_v7)) := by
  unfold unscopedBufs
  rw [show (Finset.univ.filter fun b : Ref sig .tc => ¬ b.isScoped)
      = {main_arg0, main_arg1, main_v0, main_v1, main_v2, main_v3_0, main_v3_1, main_v4_0, main_v4_1, main_v5, main_v6, main_v7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The flat rows and the segment numbers are the arrays the tiles read. -/
theorem whole4_of (d : Dev nD) (g0 : Buf (Elt F) (oLoc d)) (g1 : Buf (Elt F) (pLoc d)) :
    (whole4 (fun d => feA (A0 m d)) (fun d => idA (F := F) (A1 m d)) d g0 g1 : sProp 𝕄)
      = iprop(bt d main_v1 (x1 (A0 m d)) ∗ bt d main_arg1 (A1 m d) ∗ bt d main_v3_0 g0 ∗ bt d main_v3_1 g1) := by
  have h1 : (vec1 (n := 12800000) (feA (A0 m d)) : main_v1.ty.Contents (Elt F)) = x1 (A0 m d) := vec1_nat1 _
  have h2 : (vec1 (n := 100000) (idA (F := F) (A1 m d)) : main_arg1.ty.Contents (Elt F)) = A1 m d := vec1_nat1 _
  unfold whole4
  rw [h1, h2]

/-- The SparseCore call, from its four arrays. -/
theorem wp_sc (κ : GSem nD τ sig → ℕ) (d : Dev nD) (Q : PUnit → sProp 𝕄) :
    iprop((K (F := F)).ctx EH (PP m) κ ∗ (K (F := F)).tcSt EH d 0
        ∗ (bt d main_v1 (x1 (A0 m d)) ∗ bt d main_arg1 (A1 m d) ∗ bt d main_v3_0 (m (oLoc d)) ∗ bt d main_v3_1 (m (pLoc d)))
        ∗ (((K (F := F)).tcSt EH d 1 ∗ bt d main_v1 (x1 (A0 m d)) ∗ bt d main_arg1 (A1 m d) ∗ bt d main_v3_0 (r0 (A0 m d) (A1 m d)) ∗ bt d main_v3_1 (r1 (A0 m d) (A1 m d))) -∗ Q ⟨⟩))
      ⊢ wp frame (wpE ((K (F := F)).defs (D (F := F))) 𝒱 (SparseCore.T d) none) Set.univ ((K (F := F)).run d 0) Q := by
  have h := (K (F := F)).wp_run (D (F := F)) 𝒱 (EH := EH) (P := PP m) κ d 0 (Φ := Q)
  rw [st0_eq, dn0_eq, whole4_of, whole4_of] at h
  exact h

/-- @main on device `d`'s TensorCore. -/
theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G FIN
  rw [unscopedBufs_eq]
  simp only [main, wp_bind, wp_pure]
  iintro ⟨#Hctx, Hst, ⟨Hb, ⟨B0, B1, V0, V1, V2, V30, V31, V40, V41, V5, V6, V7⟩, Hts, -⟩, HG0, HG1⟩
  ihave #HL := (SparseCore.Cfg.ctx_levAts (K := K (F := F)) (EH := EH) (P := PP m) κ) $$ Hctx
  iapply (wp_reshape d main_arg0 main_v0 rfl shapeCasts_S100000x128x1_S100000x128 _ _ (by decide) (A0 m d) (m ((SparseCore.T d).loc main_v0)) _)
  isplitl [Hb]; · iexact Hb
  isplitl [B0]; · iexact B0
  isplitl [V0]; · iexact V0
  iintro ⟨Hb, B0, V0⟩
  iapply (wp_reshape d main_arg0 main_v1 rfl shapeCasts_S100000x128x1_S12800000 _ _ (by decide) (A0 m d) (m ((SparseCore.T d).loc main_v1)) _)
  isplitl [Hb]; · iexact Hb
  isplitl [B0]; · iexact B0
  isplitl [V1]; · iexact V1
  iintro ⟨Hb, B0, V1⟩
  iapply (wp_reshape d main_arg1 main_v2 rfl shapeCasts_S100000_S50x1x2000 _ _ (by decide) (A1 m d) (m ((SparseCore.T d).loc main_v2)) _)
  isplitl [Hb]; · iexact Hb
  isplitl [B1]; · iexact B1
  isplitl [V2]; · iexact V2
  iintro ⟨Hb, B1, V2⟩
  iapply (wp_sc m κ d _)
  isplitr; · iexact Hctx
  isplitl [Hst]; · iexact Hst
  isplitl [V1 B1 V30 V31]
  · isplitl [V1]; · iexact V1
    isplitl [B1]; · iexact B1
    isplitl [V30]; · iexact V30
    iexact V31
  iintro ⟨Hst, V1, B1, V30, V31⟩
  ihave Hst := (tcSt_open d) $$ Hst
  icases Hst with ⟨HO, Hst⟩
  iapply (wp_region (reg1 (x2 (A1 m d)) (x0 (A0 m d)) (m ((SparseCore.T d).loc main_v4_0)) (m ((SparseCore.T d).loc main_v4_1))) d _)
  isplitl [Hb]; · iexact Hb
  isplitl [V2 V0 V40 V41 HO]
  · iapply (reg1_pre d _ _ _ _)
    isplitr [HO]; swap; · iexact HO
    isplitl [V2]; · iexact V2
    isplitl [V0]; · iexact V0
    isplitl [V40]; · iexact V40
    iexact V41
  isplitr; · iexact HL
  isplitl [HG0]; · iexact HG0
  iintro ⟨Hb, HP⟩
  ihave HP := (reg1_post d _ _ _ _) $$ HP
  icases HP with ⟨⟨-, -, V40, V41⟩, HO⟩
  iapply (wp_reshape d main_v3_0 main_v5 rfl shapeCasts_S262144_S32x64x128 _ _ (by decide) (r0 (A0 m d) (A1 m d)) (m ((SparseCore.T d).loc main_v5)) _)
  isplitl [Hb]; · iexact Hb
  isplitl [V30]; · iexact V30
  isplitl [V5]; · iexact V5
  iintro ⟨Hb, -, V5⟩
  iapply (wp_reshape d main_v3_1 main_v6 rfl shapeCasts_S2048_S32x64 _ _ (by decide) (r1 (A0 m d) (A1 m d)) (m ((SparseCore.T d).loc main_v6)) _)
  isplitl [Hb]; · iexact Hb
  isplitl [V31]; · iexact V31
  isplitl [V6]; · iexact V6
  iintro ⟨Hb, -, V6⟩
  iapply (wp_region (reg2 (x5 (A0 m d) (A1 m d)) (x6 (A0 m d) (A1 m d)) (fin2 (x2 (A1 m d)) (x0 (A0 m d))) (fin3 (x2 (A1 m d))) (m ((SparseCore.T d).loc main_v7))) d _)
  isplitl [Hb]; · iexact Hb
  isplitl [V5 V6 V40 V41 V7 HO]
  · iapply (reg2_pre d _ _ _ _ _)
    isplitr [HO]; swap; · iexact HO
    isplitl [V5]; · iexact V5
    isplitl [V6]; · iexact V6
    isplitl [V40]; · iexact V40
    isplitl [V41]; · iexact V41
    iexact V7
  isplitr; · iexact HL
  isplitl [HG1]; · iexact HG1
  iintro ⟨Hb, HP⟩
  ihave HP := (reg2_post d _ _ _ _ _) $$ HP
  icases HP with ⟨⟨-, -, -, -, V7⟩, HO⟩
  imodintro
  isplitl [Hst HO]; · iapply Hst; iexact HO
  isplitl [B0 B1 V7]
  · isplitl [B0]; · iexact B0
    isplitl [B1]; · iexact B1
    iexact V7
  isplitl [Hb] <;> iassumption

/-! ## The launch -/

/-- The launch element: the handshakes' rounds, the pipelines' rounds. -/
def u₀ : UU := (initOf (K (F := F)).hsCells (K (F := F)).hsToks,
  (initOf (Pipeline.cells cfgs cellOf_inj) (Pipeline.launchToks cfgs cellOf_inj), 1))

theorem ownU_split (a : UH) (b : UPipe) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- Each device's two pipelines' ghost state. -/
theorem G_eq : (bigSep Finset.univ (G (F := F)) : sProp 𝕄)
    = iprop((bigSep Finset.univ fun c : Dev nD => bigSep Finset.univ fun p : Fin 2 => Pipeline.cellsGhost (Pipeline.pin (pcfgs (F := F)) adm) EP p c)
      ∗ bigSep Finset.univ fun c : Dev nD => bigSep Finset.univ fun p : Fin 2 => Pipeline.toksInit (Pipeline.pin (pcfgs (F := F)) adm) EP p c) := by
  rw [← bigSep_sep']
  refine bigSep_congr fun c _ => ?_
  rw [← bigSep_sep', show (Finset.univ : Finset (Fin 2)) = {0, 1} by decide, SparseCore.bigSep_insert' (by decide), bigSep_singleton]
  rfl

theorem hu₀ : (ownU (u₀ (F := F)) : sProp 𝕄)
    ⊢ |={Set.univ}=> iprop(BI.own (EH (initOf (K (F := F)).hsCells (K (F := F)).hsToks)) ∗ (bigSep Finset.univ G)
        ∗ bigSep Finset.univ fun thr : Thread nD τ => bigSep Finset.univ fun q : Fin 1 => (PP m).x q thr) := by
  have hx : (bigSep Finset.univ fun thr : Thread nD τ => bigSep Finset.univ fun q : Fin 1 => (PP m).x q thr) = (iprop(emp) : sProp 𝕄) :=
    (bigSep_congr fun _ _ => bigSep_univ_of_subsingleton (0 : Fin 1)).trans (bigSep_emp_const _)
  rw [hx, G_eq]
  unfold u₀
  iintro Hu
  ihave H := (ownU_split _ _) $$ Hu
  icases H with ⟨HH, HP⟩
  imod (Pipeline.fund_ghost (Pipeline.pin (pcfgs (F := F)) adm) EP cellOf_inj) $$ HP with HP
  imodintro
  isplitl [HH]; · iexact HH
  isplitl [HP]; · iexact HP
  iempintro

/-- What the launch's end says of device `d`'s memory. -/
def fq (d : Dev nD) (s' : Phys nD τ sig (Elt F)) : Prop :=
  s'.mem.mem ((SparseCore.T d).loc main_arg0) = A0 m d ∧ s'.mem.mem ((SparseCore.T d).loc main_arg1) = A1 m d
    ∧ s'.mem.mem ((SparseCore.T d).loc main_v7) = outA (A0 m d) (A1 m d)

set_option maxRecDepth 16384 in
theorem hfin (d : Dev nD) (s' : Phys nD τ sig (Elt F)) : iprop(FIN m d ∗ SI s') ⊢ (⌜fq m d s'⌝ : sProp 𝕄) := by
  unfold FIN
  iintro ⟨⟨B0, B1, V7⟩, HSI⟩
  ihave H := (persistent_entails_right (SI_pointsTo_agree (st := s') (ℓ := (SparseCore.T d).loc main_arg0) (I := Finset.univ) (q := fullShare) (f := A0 m d))) $$ [HSI B0]
  · isplitl [HSI] <;> iassumption
  icases H with ⟨%h1, HSI, -⟩
  ihave H := (persistent_entails_right (SI_pointsTo_agree (st := s') (ℓ := (SparseCore.T d).loc main_arg1) (I := Finset.univ) (q := fullShare) (f := A1 m d))) $$ [HSI B1]
  · isplitl [HSI] <;> iassumption
  icases H with ⟨%h2, HSI, -⟩
  ihave H := (SI_pointsTo_agree (st := s') (ℓ := (SparseCore.T d).loc main_v7) (I := Finset.univ) (q := fullShare) (f := outA (A0 m d) (A1 m d))) $$ [HSI V7]
  · isplitl [HSI] <;> iassumption
  icases H with %h3
  ipureintro
  exact ⟨funext fun i => h1 i (Finset.mem_univ i), funext fun i => h2 i (Finset.mem_univ i), funext fun i => h3 i (Finset.mem_univ i)⟩

/-- Every segment number, read unsigned, is below 64. -/
def IdsOK : Prop := ∀ (d : Dev nD) (i : main_arg1.ty.Idx), BitVec.toNat (w := 32) (A1 m d i) < 64

/-- The run of the program from segment numbers in range: the arguments kept, the result `outA`, every semaphore at zero. -/
theorem run_main (hid : IdsOK m) :
    θ_run (Cert.KernelIdeal.defs (F := F)) (Cert.KernelIdeal.threads (F := F)) ⟨m, fun _ => 0, ρ⟩ fun r =>
      (∀ d : Dev nD, r.2.mem ((SparseCore.T d).loc main_arg0) = A0 m d ∧ r.2.mem ((SparseCore.T d).loc main_arg1) = A1 m d
        ∧ r.2.mem ((SparseCore.T d).loc main_v7) = outA (A0 m d) (A1 m d)) ∧ r.2.sem = fun _ => 0 :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl _ _ _ _ fun d k => hid d _)
    (fun q _ => match q with | 0 => SparseCore.Cfg.VecSplit.of_plain (vecSplit _ _ _ _))
    m ρ main G (FIN m) (u₀ (F := F)) (sep_elim_left.trans (hu₀ m)) (hmain m ρ) (fq m) (hfin m) _ (fun _ h hz => ⟨h, hz⟩)

end Main

end Cert.Proof.Seg
-- ==== Proof.Frames.lean ====
/-
  What the precondition of the frames says of the segment numbers, and the frames: of the kernel at machine words and at extended
  reals from the run of the kernel (Launch.lean), of the reference from its line of operations.
-/
module

public import proofs.«01_k».proof.Defs
public import proofs.«01_k».proof.Proof.Launch
public import proofs.«01_k».proof.Proof.Gen.Kernel
public import proofs.«01_k».proof.Proof.Gen.Pre_ids_in_range
public import proofs.«01_k».proof.Proof.Gen.ReferenceIdeal.Run
public import Idealize.ShloMosaic.Lib.Affine

@[expose] public section

noncomputable section

namespace Cert.Proof.Seg

open Idealize.ShloMosaic Idealize.SL.Sem

/-! ## The preconditions -/

/-- A word that is at least 0 and below 64 as a signed number is below 64 as an unsigned one. -/
theorem lt64 (v : BitVec 32) (h : IntOp.andi (IntOp.cmpi .sge v 0#32) (IntOp.cmpi .slt v 64#32) = 1#1) : v.toNat < 64 := by
  obtain ⟨h0, h1⟩ := IntOp.andi_eq_one.1 h
  rw [IntOp.cmpi_sge] at h0
  rw [IntOp.cmpi_slt] at h1
  simp only [BitVec.toInt_eq_toNat_cond, BitVec.toNat_ofNat, Nat.reducePow, Nat.reduceMod] at h0 h1
  omega

/-- `ids_in_range` bounds every segment number. -/
theorem ids_of_range {F : FTy → Type} [FloatOps F] (x : FVec F Pre_ids_in_range.S100000x128x1 .f32) (v : IVec Pre_ids_in_range.S100000 32)
    (h : Pre_ids_in_range.fn x v = fun _ => 1#1) (i : Pre_ids_in_range.S100000.Idx) : (v i).toNat < 64 := by
  have e := congrFun h i
  simp only [Pre_ids_in_range.fn, andi, cmpi, broadcastInDim, constantI] at e
  exact lt64 _ e

/-! ## The frames -/

/-- Kernel and idealized kernel have the same bodies: no operation is rewritten between them. -/
theorem defs₀_kernel : Cert.Kernel.defs₀ (F := Bits) = Cert.KernelIdeal.defs₀ (F := Bits) := by
  funext p ℓ a
  match p, ℓ with
  | .tc, 0 => rfl
  | .tc, 1 => rfl
  | .tc, 2 => rfl
  | .scVector c s, 0 => rfl
  | .scVector c s, 1 => rfl
  | .scVector c s, 2 => rfl
  | .scScalar c, 0 => rfl
  | .scScalar c, 1 => rfl
  | .scScalar c, 2 => rfl

/-- The same of the bodies with the pipelines' and the launch's. -/
theorem defs_kernel : Cert.Kernel.defs (F := Bits) = Cert.KernelIdeal.defs (F := Bits) :=
  congrArg (fun D => (Cert.KernelIdeal.sc (F := Bits)).defs (Pipeline.defs Cert.KernelIdeal.pcfgs D)) defs₀_kernel

/-- A run of the idealized kernel at machine words is a run of the kernel. -/
theorem run_kernel (m : (ℓ : Loc Cert.Kernel.nD Cert.Kernel.τ Cert.Kernel.sig) → Buf (Elt Bits) ℓ) (ρ : Dev Cert.Kernel.nD → PrngReg)
    (Q : PUnit × MemSt Cert.Kernel.nD Cert.Kernel.τ Cert.Kernel.sig (Elt Bits) → Prop)
    (h : θ_run (Cert.KernelIdeal.defs (F := Bits)) (Cert.KernelIdeal.threads (F := Bits)) ⟨m, fun _ => 0, ρ⟩ Q) :
    θ_run (Cert.Kernel.defs (F := Bits)) (Cert.Kernel.threads (F := Bits)) ⟨m, fun _ => 0, ρ⟩ Q := by
  rw [defs_kernel]
  exact h

/-- The kernel at machine words, from segment numbers in range. -/
theorem frame_kernel : Cert.quiescent_Kernel := fun m ρ hpre =>
  run_kernel m ρ _ ((θ_run (Cert.KernelIdeal.defs (F := Bits)) _ _).mono (fun _ h => ⟨fun c => ⟨(h.1 c).1, (h.1 c).2.1⟩, h.2⟩)
    (run_main (F := Bits) m ρ fun d i => ids_of_range _ _ (hpre d) i))

/-- The kernel at extended reals, from segment numbers in range. -/
theorem frame_ideal : Cert.quiescent_KernelIdeal := fun m ρ hpre =>
  (θ_run (Cert.KernelIdeal.defs (F := Ideal)) _ _).mono (fun _ h => ⟨fun c => ⟨(h.1 c).1, (h.1 c).2.1⟩, h.2⟩)
    (run_main (F := Ideal) m ρ fun d i => ids_of_range _ _ (hpre d) i)

/-- The reference: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Seg

end
-- ==== Proof.Sorted.lean ====
/-
  What the precondition of the value claim says of the segment numbers, and the frames under it.
-/
module

public import proofs.«01_k».proof.Proof.Frames
public import proofs.«01_k».proof.Proof.Gen.Pre_ids_sorted_in_range
public import Idealize.ShloMosaic.Lib.ReduceAll

@[expose] public section

noncomputable section

namespace Cert.Proof.Seg

open Idealize.ShloMosaic Idealize.SL.Sem

instance : Subsingleton Pre_ids_sorted_in_range.S_.Idx := ⟨fun _ _ => funext fun a => a.elim0⟩

/-- `ids_sorted_in_range` bounds every segment number, and none is below the one before it. -/
theorem ids_of_sorted {F : FTy → Type} [FloatOps F] (x : FVec F Pre_ids_sorted_in_range.S100000x128x1 .f32)
    (v : IVec Pre_ids_sorted_in_range.S100000 32) (h : Pre_ids_sorted_in_range.fn x v = fun _ => 1#1) :
    (∀ i, (v i).toNat < 64)
      ∧ ∀ i, ((extractStridedSlice Pre_ids_sorted_in_range.S99999 ![0] v Pre_ids_sorted_in_range.Facts.slices_S100000_S99999_0 i)).toInt
          ≤ ((extractStridedSlice Pre_ids_sorted_in_range.S99999 ![1] v Pre_ids_sorted_in_range.Facts.slices_S100000_S99999_1 i)).toInt := by
  have e := congrFun h ((⟨fun a => a.elim0⟩ : Nonempty Pre_ids_sorted_in_range.S_.Idx).some)
  dsimp only [Pre_ids_sorted_in_range.fn] at e
  obtain ⟨e1, e2⟩ := IntOp.andi_eq_one.1 e
  constructor
  · intro i
    have e3 := Host.reduce_andi_all _ _ _ _ _ e1 i
    simp only [andi, cmpi, broadcastInDim, constantI] at e3
    exact lt64 _ e3
  · intro i
    exact IntOp.cmpi_sge.1 (Host.reduce_andi_all _ _ _ _ _ e2 i)

/-- The segment numbers of a list that none is below the one before it, as `nat1` reads it, only grow. -/
theorem mono_of_sorted (v : IVec Pre_ids_sorted_in_range.S100000 32) (h : ∀ i, (v i).toNat < 64)
    (hs : ∀ i, ((extractStridedSlice Pre_ids_sorted_in_range.S99999 ![0] v Pre_ids_sorted_in_range.Facts.slices_S100000_S99999_0 i)).toInt
          ≤ ((extractStridedSlice Pre_ids_sorted_in_range.S99999 ![1] v Pre_ids_sorted_in_range.Facts.slices_S100000_S99999_1 i)).toInt)
    (a b : Nat) (hab : a ≤ b) (hb : b < 100000) :
    (nat1 (n := 99999) v a).toNat ≤ (nat1 (n := 99999) v b).toNat := by
  induction b, hab using Nat.le_induction with
  | base => exact le_rfl
  | succ b hab ih =>
    refine (ih (by omega)).trans ?_
    have hb' : b < 99999 := by omega
    have e := hs (fun | 0 => ⟨b, hb'⟩)
    have e0 : extractStridedSlice Pre_ids_sorted_in_range.S99999 ![0] v Pre_ids_sorted_in_range.Facts.slices_S100000_S99999_0 (fun | 0 => ⟨b, hb'⟩)
        = nat1 (n := 99999) v b := by
      unfold nat1
      refine congrArg v (funext fun a => ?_)
      obtain rfl : a = 0 := Subsingleton.elim _ _
      exact Fin.ext (by show 0 + b = b % 100000; omega)
    have e1 : extractStridedSlice Pre_ids_sorted_in_range.S99999 ![1] v Pre_ids_sorted_in_range.Facts.slices_S100000_S99999_1 (fun | 0 => ⟨b, hb'⟩)
        = nat1 (n := 99999) v (b + 1) := by
      unfold nat1
      refine congrArg v (funext fun a => ?_)
      obtain rfl : a = 0 := Subsingleton.elim _ _
      exact Fin.ext (by show 1 + b = (b + 1) % 100000; omega)
    rw [e0, e1, BitVec.toInt_eq_toNat_of_lt (by have : (nat1 (n := 99999) v b).toNat < 64 := h _; omega),
      BitVec.toInt_eq_toNat_of_lt (by have : (nat1 (n := 99999) v (b + 1)).toNat < 64 := h _; omega)] at e
    omega

/-! ## The frames -/

/-- The kernel at extended reals, from sorted segment numbers in range. -/
theorem frame_ideal_sorted : Cert.quiescent_KernelIdeal_pre_ids_sorted_in_range := fun m ρ hpre =>
  (θ_run (Cert.KernelIdeal.defs (F := Ideal)) _ _).mono (fun _ h => ⟨fun c => ⟨(h.1 c).1, (h.1 c).2.1⟩, h.2⟩)
    (run_main (F := Ideal) m ρ fun d i => (ids_of_sorted _ _ (hpre d)).1 i)

/-- The same, from sorted segment numbers in range. -/
theorem frame_reference_sorted : Cert.quiescent_ReferenceIdeal_pre_ids_sorted_in_range := fun m ρ _ => frame_reference m ρ trivial

end Cert.Proof.Seg

end
-- ==== Proof.TileSums.lean ====
/-
  What a tile sums, at extended reals: the numbers and the count of each segment over the tile's rows, in any order.
-/
module

public import proofs.«01_k».proof.Proof.Vals
public import Idealize.ShloMosaic.Lib.IdealHost

@[expose] public section

noncomputable section

namespace Cert.Proof.Seg

open Idealize.ShloMosaic

/-- The sum of column `c` over the rows from `a` up to `b` of segment `g`. -/
def segSum (fe : Nat → EReal) (id : Nat → Nat) (a b g c : Nat) : EReal := ∑ r ∈ Finset.Ico a b, if id r = g then fe (128 * r + c) else 0
/-- The number of rows from `a` up to `b` of segment `g`. -/
def segCount (id : Nat → Nat) (a b g : Nat) : EReal := ∑ r ∈ Finset.Ico a b, if id r = g then 1 else 0

/-- Sums over adjoining ranges of rows add up. -/
theorem segSum_join (fe : Nat → EReal) (id : Nat → Nat) {a b d : Nat} (h : a ≤ b) (h' : b ≤ d) (g c : Nat) :
    segSum fe id a b g c + segSum fe id b d g c = segSum fe id a d g c := Finset.sum_Ico_consecutive _ h h'
/-- Counts over adjoining ranges of rows add up. -/
theorem segCount_join (id : Nat → Nat) {a b d : Nat} (h : a ≤ b) (h' : b ≤ d) (g : Nat) :
    segCount id a b g + segCount id b d g = segCount id a d g := Finset.sum_Ico_consecutive _ h h'

/-- Over `n` stretches of `k` rows. -/
theorem segSum_blocks (fe : Nat → EReal) (id : Nat → Nat) (k g c n : Nat) :
    ∑ w ∈ Finset.range n, segSum fe id (k * w) (k * (w + 1)) g c = segSum fe id 0 (k * n) g c := by
  induction n with
  | zero => simp [segSum]
  | succ n ih => rw [Finset.sum_range_succ, ih, segSum_join _ _ (Nat.zero_le _) (Nat.mul_le_mul_left _ (Nat.le_succ _))]
/-- Counts over equal blocks of rows add up. -/
theorem segCount_blocks (id : Nat → Nat) (k g n : Nat) :
    ∑ w ∈ Finset.range n, segCount id (k * w) (k * (w + 1)) g = segCount id 0 (k * n) g := by
  induction n with
  | zero => simp [segCount]
  | succ n ih => rw [Finset.sum_range_succ, ih, segCount_join _ (Nat.zero_le _) (Nat.mul_le_mul_left _ (Nat.le_succ _))]

/-- Rows taken from `a` on. -/
theorem segSum_shift (fe : Nat → EReal) (id : Nat → Nat) (a n g c : Nat) :
    segSum (fun x => fe (128 * a + x)) (fun r => id (a + r)) 0 n g c = segSum fe id a (a + n) g c := by
  unfold segSum
  rw [Finset.sum_Ico_eq_sum_range, Finset.sum_Ico_eq_sum_range, Nat.sub_zero, Nat.add_sub_cancel_left]
  refine Finset.sum_congr rfl fun r _ => ?_
  rw [Nat.zero_add, Nat.mul_add, Nat.add_assoc]
/-- Counting from `a` on is counting the ids shifted by `a`. -/
theorem segCount_shift (id : Nat → Nat) (a n g : Nat) : segCount (fun r => id (a + r)) 0 n g = segCount id a (a + n) g := by
  unfold segCount
  rw [Finset.sum_Ico_eq_sum_range, Finset.sum_Ico_eq_sum_range, Nat.sub_zero, Nat.add_sub_cancel_left]
  refine Finset.sum_congr rfl fun r _ => ?_
  rw [Nat.zero_add]

/-! ## The kernel's constants -/

/-- The kernel's zero is zero. -/
theorem zeroF_ideal : (zeroF : Ideal .f32) = (0 : EReal) := Ideal.ofBits_zero_f32
/-- The kernel's one is one. -/
theorem c1_ideal : (c1 : Ideal .f32) = (1 : EReal) := Ideal.ofBits_one_f32
/-- The kernel's 125 is 125. -/
theorem c125_ideal : (c125 : Ideal .f32) = ((125 : ℕ) : EReal) := by
  show Ideal.ofBits .f32 0x42FA0000#32 = _
  simp [Ideal.ofBits, Ideal.ieee]
  rw [← EReal.coe_mul, show ((16384000 : ℝ) * (2 ^ 17)⁻¹) = 125 by norm_num]
  rfl
/-- The kernel's addition is addition. -/
theorem add2_ideal (a b : Ideal .f32) : add2 a b = (a + b : EReal) := rfl

/-! ## One block -/

/-- A row added at segment `id` changes that segment's sums only. -/
theorem addAt_row (a w : Nat → Ideal .f32) (id g c : Nat) (hc : c < 128) :
    addAt 128 a (128 * id) w (128 * g + c) = (a (128 * g + c) + if id = g then w c else 0 : EReal) := by
  unfold addAt
  by_cases h : id = g
  · subst h
    rw [if_pos (by omega), if_pos rfl, add2_ideal, Nat.add_sub_cancel_left]
  · rw [if_neg (by omega), if_neg h]
    exact (add_zero (M := EReal) _).symm

/-- A count added at segment `id` changes that segment's count only. -/
theorem addAt_count (a : Nat → Ideal .f32) (id g : Nat) (v : Ideal .f32) :
    addAt 16 a (16 * (id / 16)) (cntW id v) g = (a g + if id = g then v else 0 : EReal) := by
  unfold addAt cntW
  by_cases h : id = g
  · subst h
    rw [if_pos (by omega), if_pos rfl, if_pos (by omega), add2_ideal]
  · rw [if_neg h]
    split
    · rw [if_neg (by omega), zeroF_ideal]; rfl
    · exact (add_zero (M := EReal) _).symm

/-- After `k` rows one by one, segment `g`'s sum has grown by its rows among them. -/
theorem rowSt_sum (fe : Nat → Ideal .f32) (id : Nat → Nat) (a n : Nat → Ideal .f32) (g c : Nat) (hc : c < 128) (k : Nat) :
    (rowSt fe id a n k).1 (128 * g + c) = (a (128 * g + c) + segSum fe id 0 k g c : EReal) := by
  induction k with
  | zero => show a _ = _; simp [segSum]
  | succ k ih =>
    show addAt 128 (rowSt fe id a n k).1 (128 * id k) (fun x => fe (128 * k + x)) (128 * g + c) = _
    rw [addAt_row _ _ _ _ _ hc, ih, add_assoc]
    unfold segSum
    rw [Finset.sum_Ico_succ_top (Nat.zero_le k)]

/-- After `k` rows one by one, segment `g`'s count has grown by its rows among them. -/
theorem rowSt_count (fe : Nat → Ideal .f32) (id : Nat → Nat) (a n : Nat → Ideal .f32) (g k : Nat) :
    (rowSt fe id a n k).2 g = (n g + segCount id 0 k g : EReal) := by
  induction k with
  | zero => show n g = _; simp [segCount]
  | succ k ih =>
    show addAt 16 (rowSt fe id a n k).2 (16 * (id k / 16)) (cntW (id k) c1) g = _
    rw [addAt_count, ih, add_assoc, c1_ideal]
    unfold segCount
    rw [Finset.sum_Ico_succ_top (Nat.zero_le k)]

/-- The running sum of `k` rows is their sum. -/
theorem rowsN_sum (fe : Nat → Ideal .f32) (k x : Nat) : rowsN fe k x = (∑ r ∈ Finset.Ico 0 k, fe (128 * r + x) : EReal) := by
  induction k with
  | zero => rw [rowsN_zero, zeroF_ideal]; simp
  | succ k ih => rw [rowsN_succ, ih, add2_ideal, Finset.sum_Ico_succ_top (Nat.zero_le k)]

/-- A block of rows whose segments, from the first row to the last, never fall: each segment's sum and count grow by
    the block's rows of that segment. -/
theorem blkSt_sum (fe : Nat → Ideal .f32) (id : Nat → Nat) (hs : ∀ i j, i ≤ j → j < 125 → id i ≤ id j)
    (s : (Nat → Ideal .f32) × (Nat → Ideal .f32)) (g c : Nat) (hc : c < 128) :
    (blkSt fe id s).1 (128 * g + c) = (s.1 (128 * g + c) + segSum fe id 0 125 g c : EReal) := by
  unfold blkSt
  split
  · rename_i e
    have hid : ∀ r ∈ Finset.Ico 0 125, id r = id 0 := fun r hr => by
      have hr := (Finset.mem_Ico.1 hr).2
      exact le_antisymm ((hs r 124 (by omega) (by omega)).trans e.ge) (hs 0 r (Nat.zero_le _) hr)
    show addAt 128 s.1 (128 * id 0) (rowsN fe 125) (128 * g + c) = _
    rw [addAt_row _ _ _ _ _ hc, rowsN_sum]
    congr 1
    unfold segSum
    split
    · rename_i h; exact Finset.sum_congr rfl fun r hr => (if_pos ((hid r hr).trans h)).symm
    · rename_i h; exact (Finset.sum_eq_zero fun r hr => if_neg fun h' => h ((hid r hr).symm.trans h')).symm
  · exact rowSt_sum fe id _ _ g c hc 125

/-- A block of sorted ids adds to segment `g`'s count its rows of that segment. -/
theorem blkSt_count (fe : Nat → Ideal .f32) (id : Nat → Nat) (hs : ∀ i j, i ≤ j → j < 125 → id i ≤ id j)
    (s : (Nat → Ideal .f32) × (Nat → Ideal .f32)) (g : Nat) :
    (blkSt fe id s).2 g = (s.2 g + segCount id 0 125 g : EReal) := by
  unfold blkSt
  split
  · rename_i e
    have hid : ∀ r ∈ Finset.Ico 0 125, id r = id 0 := fun r hr => by
      have hr := (Finset.mem_Ico.1 hr).2
      exact le_antisymm ((hs r 124 (by omega) (by omega)).trans e.ge) (hs 0 r (Nat.zero_le _) hr)
    show addAt 16 s.2 (16 * (id 0 / 16)) (cntW (id 0) c125) g = _
    rw [addAt_count, c125_ideal]
    congr 1
    unfold segCount
    split
    · rename_i h
      rw [Finset.sum_congr rfl fun r hr => if_pos ((hid r hr).trans h), Finset.sum_const, Nat.card_Ico, nsmul_one]
    · rename_i h; exact (Finset.sum_eq_zero fun r hr => if_neg fun h' => h ((hid r hr).symm.trans h')).symm
  · exact rowSt_count fe id _ _ g 125

/-! ## One tile -/

/-- The sums of tile `w` after `b` blocks, of segments that never fall. -/
theorem tileSt_sum (fe : Nat → Ideal .f32) (id : Nat → Nat) (w : Nat) (hs : ∀ i j, i ≤ j → j < 1500 * w + 1500 → id i ≤ id j)
    (g c : Nat) (hc : c < 128) (b : Nat) (hb : b ≤ 12) :
    (tileSt fe id w b).1 (128 * g + c) = segSum fe id (1500 * w) (1500 * w + 125 * b) g c := by
  induction b with
  | zero => show (zeroF : Ideal .f32) = _; rw [zeroF_ideal]; simp [segSum]
  | succ b ih =>
    show (blkSt (fun x => fe (192000 * w + 16000 * b + x)) (fun r => id (1500 * w + 125 * b + r)) (tileSt fe id w b)).1 (128 * g + c) = _
    rw [blkSt_sum _ _ (fun i j hij hj => hs _ _ (by omega) (by omega)) _ _ _ hc, ih (by omega),
      show (192000 * w + 16000 * b) = 128 * (1500 * w + 125 * b) by ring,
      segSum_shift fe id (1500 * w + 125 * b) 125 g c, segSum_join _ _ (by omega) (by omega)]
    rfl

/-- The counts of tile `w` after `b` blocks, of segments that never fall. -/
theorem tileSt_count (fe : Nat → Ideal .f32) (id : Nat → Nat) (w : Nat) (hs : ∀ i j, i ≤ j → j < 1500 * w + 1500 → id i ≤ id j)
    (g b : Nat) (hb : b ≤ 12) :
    (tileSt fe id w b).2 g = segCount id (1500 * w) (1500 * w + 125 * b) g := by
  induction b with
  | zero => show (zeroF : Ideal .f32) = _; rw [zeroF_ideal]; simp [segCount]
  | succ b ih =>
    show (blkSt (fun x => fe (192000 * w + 16000 * b + x)) (fun r => id (1500 * w + 125 * b + r)) (tileSt fe id w b)).2 g = _
    rw [blkSt_count _ _ (fun i j hij hj => hs _ _ (by omega) (by omega)), ih (by omega),
      segCount_shift id (1500 * w + 125 * b) 125 g, segCount_join _ (by omega) (by omega)]
    rfl

end Cert.Proof.Seg

end
-- ==== Proof.BlockSums.lean ====
/-
  What the block kernel sums, at extended reals: over the rows from 48000 on, each segment's numbers and their count.
-/
module

public import proofs.«01_k».proof.Proof.Region1
public import proofs.«01_k».proof.Proof.TileSums
public import Idealize.ShloMosaic.Lib.Pointwise
public import Idealize.ShloMosaic.Lib.Pipeline.ValueKit

@[expose] public section

noncomputable section

namespace Cert.Proof.Seg

open Cert.KernelIdeal Cert.KernelIdeal.Gen
open Idealize.ShloMosaic Idealize.ShloMosaic.Pointwise

/-- The one-hot entry of segment `g` and row `k`: one where the row's word is `g`, else zero. -/
theorem pay1_at (v0 : Vec Ideal S1x1x2000 .i32) (g : Fin 64) (k : Fin 2000) :
    k1_pay1 v0 (ix2 g k) = (if v0 (ix3 0 0 k) = BitVec.ofNat 32 g.val then 1 else 0 : EReal) := by
  pointwise [k1_pay1]
  by_cases h : v0 (ix3 0 0 k) = BitVec.ofNat 32 g.val
  · rw [if_pos h, h]
    simp only [IntOp.cmpi, beq_self_eq_true]
    show ((((1#32 : BitVec 32).toInt : ℝ)) : EReal) = 1
    simp
  · rw [if_neg h]
    simp only [IntOp.cmpi, beq_eq_false_iff_ne.2 h]
    show ((((0#32 : BitVec 32).toInt : ℝ)) : EReal) = 0
    simp

/-- A first block's sums: at segment `g` and feature `c`, the features of its rows in the segment, summed. -/
theorem pay2_at (v0 : Vec Ideal S1x1x2000 .i32) (v8 : Vec Ideal S2000x128 .f32) (g : Fin 64) (c : Fin 128) :
    k1_pay2 v0 v8 (ix2 g c) = (∑ k : Fin 2000, if v0 (ix3 0 0 k) = BitVec.ofNat 32 g.val then v8 (ix2 k c) else 0 : EReal) := by
  pointwise [k1_pay2]
  refine Finset.sum_congr rfl fun k _ => ?_
  rw [pay1_at, ite_mul, one_mul, zero_mul]

/-- A first block's counts: one for each of its rows in segment `g`. -/
theorem pay3_at (v0 : Vec Ideal S1x1x2000 .i32) (g : Fin 64) :
    k1_pay3 v0 (ix1 g) = (∑ k : Fin 2000, if v0 (ix3 0 0 k) = BitVec.ofNat 32 g.val then 1 else 0 : EReal) := by
  pointwise [k1_pay3]
  exact Finset.sum_congr rfl fun k _ => pay1_at v0 g k

/-- A later block adds its sums to those so far. -/
theorem pay4_at (v0 : Vec Ideal S1x1x2000 .i32) (v8 : Vec Ideal S2000x128 .f32) (v18 : Vec Ideal S64x128 .f32) (g : Fin 64) (c : Fin 128) :
    k1_pay4 v0 v8 v18 (ix2 g c) = (v18 (ix2 g c) + k1_pay2 v0 v8 (ix2 g c) : EReal) := by
  pointwise [k1_pay4]

/-- A later block adds its counts to those so far. -/
theorem pay5_at (v0 : Vec Ideal S1x1x2000 .i32) (v22 : Vec Ideal S64 .f32) (g : Fin 64) :
    k1_pay5 v0 v22 (ix1 g) = (v22 (ix1 g) + k1_pay3 v0 (ix1 g) : EReal) := by
  pointwise [k1_pay5]

/-- Which block of ids a grid point reads. -/
theorem index_0 : ∀ t : Fin cfg1.N, (cfg1.win 0).index t = ![24 + t.val, 0, 0] := by decide +kernel
/-- Which block of features a grid point reads. -/
theorem index_1 : ∀ t : Fin cfg1.N, (cfg1.win 1).index t = ![24 + t.val, 0] := by decide +kernel

/-- The ids of a grid point's block. -/
theorem blk0_at (a0 : main_v2.ty.Contents (Elt Ideal)) (t : Fin cfg1.N) (ht : 24 + t.val < 50) (k : Fin 2000) :
    blk0 a0 t (ix3 0 0 k) = a0 (ix3 ⟨24 + t.val, ht⟩ 0 k) := by
  show ((cfg1.win 0).blk t).view.read (Elt Ideal) a0 (ix3 0 0 k) = _
  blk_ext [index_0 t]

/-- The features of a grid point's block. -/
theorem blk1_at (a1 : main_v0.ty.Contents (Elt Ideal)) (t : Fin cfg1.N) (k : Fin 2000) (c : Fin 128) (ht : 2000 * (24 + t.val) + k < 100000) :
    blk1 a1 t (ix2 k c) = a1 (ix2 ⟨2000 * (24 + t.val) + k.val, ht⟩ c) := by
  show ((cfg1.win 1).blk t).view.read (Elt Ideal) a1 (ix2 k c) = _
  blk_ext [index_1 t]

/-! ## The sums over the points -/

/-- A word is segment `g`'s where its value is `g`. -/
theorem word_eq (w : BitVec 32) (g : Fin 64) : w = BitVec.ofNat 32 g.val ↔ w.toNat = g.val := by
  rw [← BitVec.toNat_inj, BitVec.toNat_ofNat, Nat.mod_eq_of_lt (by omega)]

/-- A sum over 2000 rows from `a` on, by the row's number. -/
theorem segSum_fin (fe : Nat → EReal) (id : Nat → Nat) (a g c : Nat) :
    (∑ k : Fin 2000, if id (a + k.val) = g then fe (128 * (a + k.val) + c) else 0) = segSum fe id a (a + 2000) g c := by
  unfold segSum
  rw [Finset.sum_Ico_eq_sum_range, Nat.add_sub_cancel_left, Finset.sum_range]

/-- A segment's count over 2000 rows, as a sum of indicators. -/
theorem segCount_fin (id : Nat → Nat) (a g : Nat) :
    (∑ k : Fin 2000, if id (a + k.val) = g then 1 else 0 : EReal) = segCount id a (a + 2000) g := by
  unfold segCount
  rw [Finset.sum_Ico_eq_sum_range, Nat.add_sub_cancel_left, Finset.sum_range]

section Points

variable (a0 : main_v2.ty.Contents (Elt Ideal)) (a1 : main_v0.ty.Contents (Elt Ideal)) (fe : Nat → EReal) (id : Nat → Nat)
  (h0 : ∀ (b : Fin 50) (k : Fin 2000), BitVec.toNat (w := 32) (a0 (ix3 b 0 k)) = id (2000 * b.val + k.val))
  (h1 : ∀ (r : Fin 100000) (c : Fin 128), a1 (ix2 r c) = fe (128 * r.val + c.val))

include h0 h1 in
/-- Point `t`'s block sums: the rows from `2000 (24 + t)` on. -/
theorem blk_sum (t : Fin cfg1.N) (g : Fin 64) (c : Fin 128) :
    k1_pay2 (blk0 a0 t) (blk1 a1 t) (ix2 g c) = segSum fe id (2000 * (24 + t.val)) (2000 * (24 + t.val) + 2000) g c := by
  have ht : t.val < 26 := lt_of_lt_of_eq t.isLt N_1
  rw [pay2_at, ← segSum_fin]
  refine Finset.sum_congr rfl fun k _ => ?_
  have hk : 2000 * (24 + t.val) + k.val < 100000 := by omega
  rw [blk0_at a0 t (by omega), blk1_at a1 t k c hk, h1]
  simp only [word_eq, h0]

include h0 in
/-- A grid point's block counts its rows of segment `g`. -/
theorem blk_count (t : Fin cfg1.N) (g : Fin 64) :
    k1_pay3 (F := Ideal) (blk0 a0 t) (ix1 g) = segCount id (2000 * (24 + t.val)) (2000 * (24 + t.val) + 2000) g := by
  have ht : t.val < 26 := lt_of_lt_of_eq t.isLt N_1
  rw [pay3_at, ← segCount_fin]
  refine Finset.sum_congr rfl fun k _ => ?_
  rw [blk0_at a0 t (by omega)]
  simp only [word_eq, h0]

include h0 h1 in
/-- After point `n`: the rows from 48000 up to the point's last. -/
theorem acc2_sum (g : Fin 64) (c : Fin 128) : ∀ (n : Nat) (h : n < cfg1.N),
    acc2 (blk0 a0) (blk1 a1) n h (ix2 g c) = segSum fe id 48000 (2000 * (24 + n) + 2000) g c
  | 0, h => blk_sum a0 a1 fe id h0 h1 ⟨0, h⟩ g c
  | n + 1, h => by
    show k1_pay4 _ _ _ _ = _
    rw [pay4_at, acc2_sum g c n, blk_sum a0 a1 fe id h0 h1]
    show segSum fe id 48000 (2000 * (24 + n) + 2000) g c + segSum fe id (2000 * (24 + (n + 1))) (2000 * (24 + (n + 1)) + 2000) g c = _
    rw [show 2000 * (24 + n) + 2000 = 2000 * (24 + (n + 1)) by ring, segSum_join _ _ (by omega) (by omega)]

include h0 in
/-- The counts after grid point `n` are those of all the blocks up to it. -/
theorem acc3_count (g : Fin 64) : ∀ (n : Nat) (h : n < cfg1.N),
    acc3 (F := Ideal) (blk0 a0) n h (ix1 g) = segCount id 48000 (2000 * (24 + n) + 2000) g
  | 0, h => blk_count a0 id h0 ⟨0, h⟩ g
  | n + 1, h => by
    show k1_pay5 _ _ _ = _
    rw [pay5_at, acc3_count g n, blk_count a0 id h0]
    show segCount id 48000 (2000 * (24 + n) + 2000) g + segCount id (2000 * (24 + (n + 1))) (2000 * (24 + (n + 1)) + 2000) g = _
    rw [show 2000 * (24 + n) + 2000 = 2000 * (24 + (n + 1)) by ring, segCount_join _ (by omega) (by omega)]

include h0 h1 in
/-- What the block kernel leaves: each segment's sums over the rows from 48000 on. -/
theorem fin2_at (g : Fin 64) (c : Fin 128) : fin2 a0 a1 (ix2 g c) = segSum fe id 48000 100000 g c :=
  acc2_sum a0 a1 fe id h0 h1 g c 25 _

include h0 in
/-- And their counts. -/
theorem fin3_at (g : Fin 64) : fin3 (F := Ideal) a0 (ix1 g) = segCount id 48000 100000 g :=
  acc3_count a0 id h0 g 25 _

end Points

end Cert.Proof.Seg

end
-- ==== Proof.RefSums.lean ====
/-
  What the reference sums, at extended reals: where each scatter's updates land, and so each segment's numbers and count over all rows.
-/
module

public import proofs.«01_k».proof.Proof.Gen.ReferenceIdeal.Run
public import proofs.«01_k».proof.Proof.TileSums
public import Idealize.ShloMosaic.Lib.Routing.Ops
public import Idealize.ShloMosaic.Lib.Routing.OpsPair
public import Idealize.ShloMosaic.Lib.Pointwise

@[expose] public section

noncomputable section

namespace Cert.Proof.Seg

open Cert.ReferenceIdeal Cert.ReferenceIdeal.Gen
open Facts
open Idealize.ShloMosaic Idealize.ShloMosaic.Routing Idealize.ShloMosaic.Pointwise

/-- Row `r`'s entry in column `c'` lands at `(g, c)` exactly when its word, read signed, is `g`, and `c'` is `c`. -/
theorem lands_sum (idx : IVec S100000x1 32) (r : Fin 100000) (c' : Fin 128) (g : Fin 64) (c : Fin 128) :
    scatter_S64x128_S100000x1_S100000x128_1_0_0_1.resultIdx? (ix2 r c') idx = some (ix2 g c)
      ↔ (idx (ix2 r (0 : Fin 1))).toInt = g.val ∧ c' = c := by
  have h0 : scatter_S64x128_S100000x1_S100000x128_1_0_0_1.window (ix2 r c') 0 = 0 := rfl
  have h1 : scatter_S64x128_S100000x1_S100000x128_1_0_0_1.window (ix2 r c') 1 = c'.val := rfl
  have h2 : scatter_S64x128_S100000x1_S100000x128_1_0_0_1.start (ix2 r c') idx 1 = 0 := rfl
  have h3 : scatter_S64x128_S100000x1_S100000x128_1_0_0_1.start (ix2 r c') idx 0 = (idx (ix2 r (0 : Fin 1))).toInt :=
    congrArg (fun i => (idx i).toInt) (funext fun a => match a with
      | ⟨0, _⟩ => rfl
      | ⟨1, _⟩ => rfl)
  rw [resultIdx?_eq_some]
  refine Fin.forall_fin_two.trans ?_
  rw [h0, h1, h2, h3, Fin.ext_iff]
  show _ = (g.val : Int) ∧ _ = (c.val : Int) ↔ _
  omega

/-- Row `r`'s one lands at `g` exactly when its word, read signed, is `g`. -/
theorem lands_count (idx : IVec S100000x1 32) (r : Fin 100000) (g : Fin 64) :
    scatter_S64_S100000x1_S100000_n_0_0_1.resultIdx? (ix1 r) idx = some (ix1 g) ↔ (idx (ix2 r (0 : Fin 1))).toInt = g.val := by
  have h0 : scatter_S64_S100000x1_S100000_n_0_0_1.window (ix1 r) 0 = 0 := rfl
  have h1 : scatter_S64_S100000x1_S100000_n_0_0_1.start (ix1 r) idx 0 = (idx (ix2 r (0 : Fin 1))).toInt :=
    congrArg (fun i => (idx i).toInt) (funext fun a => match a with
      | ⟨0, _⟩ => rfl
      | ⟨1, _⟩ => rfl)
  rw [resultIdx?_eq_some]
  refine Fin.forall_fin_one.trans ?_
  rw [h0, h1]
  show _ = (g.val : Int) ↔ _
  omega

/-! ## Counting with words -/

/-- Adding a one at each entry of a list that has `P`, from a word. -/
theorem foldl_ones {ι : Type} (P : ι → Prop) [DecidablePred P] (l : List ι) (z : Nat) :
    l.foldl (fun a n => if P n then IntOp.addi a 1#32 else a) (BitVec.ofNat 32 z) = BitVec.ofNat 32 (z + l.countP fun n => P n) := by
  induction l generalizing z with
  | nil => rfl
  | cons n l ih =>
    rw [List.foldl_cons, List.countP_cons]
    by_cases h : P n
    · rw [if_pos h, show IntOp.addi (BitVec.ofNat 32 z) 1#32 = BitVec.ofNat 32 (z + 1) from (BitVec.ofNat_add z 1).symm, ih,
        if_pos (decide_eq_true h), Nat.add_right_comm, Nat.add_assoc]
    · rw [if_neg h, ih, if_neg (by simpa using h), Nat.add_zero]

/-- A list's number of entries that have `P`, as a sum of ones. -/
theorem countP_cast {ι : Type} (P : ι → Prop) [DecidablePred P] (l : List ι) :
    ((l.countP fun n => P n : ℕ) : EReal) = (l.map fun n => if P n then 1 else 0).sum := by
  induction l with
  | nil => simp
  | cons n l ih =>
    rw [List.countP_cons, List.map_cons, List.sum_cons, ← ih, Nat.cast_add, add_comm]
    by_cases h : P n <;> simp [h]

/-- A number below 2³¹, as a word, read as an extended real. -/
theorem sitofp_ofNat (n : Nat) (h : n < 2 ^ 31) : (FloatOps.sitofp (F := Ideal) FTy.f32 (BitVec.ofNat 32 n)) = ((n : ℕ) : EReal) := by
  show ((((BitVec.ofNat 32 n).toInt : ℝ)) : EReal) = _
  rw [StableHlo.Predicate.toInt_ofNat_small _ h]
  simp

/-! ## The two scatters -/

section Values

variable (id : Nat → Nat) (idx : IVec S100000x1 32) (hi : ∀ r : Fin 100000, (idx (ix2 r (0 : Fin 1))).toInt = (id r.val : Int))

include hi in
/-- The scatter of the rows' numbers: each segment's sums. -/
theorem scatter_sum (fe : Nat → EReal) (x : FVec Ideal S64x128 .f32) (hx : ∀ i, x i = (0 : EReal)) (upd : FVec Ideal S100000x128 .f32)
    (hu : ∀ (r : Fin 100000) (c : Fin 128), upd (ix2 r c) = fe (128 * r.val + c.val)) (g : Fin 64) (c : Fin 128) :
    Host.scatterAdd scatter_S64x128_S100000x1_S100000x128_1_0_0_1 x idx upd (ix2 g c) = segSum fe id 0 100000 g c := by
  show x (ix2 g c) + ∑ j ∈ Finset.univ.filter (fun j => scatter_S64x128_S100000x1_S100000x128_1_0_0_1.resultIdx? j idx = some (ix2 g c)), upd j = _
  have hl : ∀ j : S100000x128.Idx, scatter_S64x128_S100000x1_S100000x128_1_0_0_1.resultIdx? j idx = some (ix2 g c) ↔ id (j 0).val = g.val ∧ j 1 = c := fun j => by
    obtain ⟨r, c', rfl⟩ : ∃ (r : Fin 100000) (c' : Fin 128), j = ix2 r c' := ⟨j 0, j 1, eq_ix2 j⟩
    rw [lands_sum, hi]
    exact and_congr_left' Int.ofNat_inj
  rw [hx, zero_add, segSum, Finset.sum_Ico_eq_sum_range, Nat.sub_zero, Finset.sum_range, ← Finset.sum_filter]
  refine Finset.sum_bij' (fun j _ => j 0) (fun r _ => ix2 r c) ?_ ?_ ?_ ?_ ?_
  · intro j hj
    rw [Finset.mem_filter, hl] at hj
    exact Finset.mem_filter.2 ⟨Finset.mem_univ _, (congrArg id (Nat.zero_add _)).trans hj.2.1⟩
  · intro r hr
    rw [Finset.mem_filter, Nat.zero_add] at hr
    rw [Finset.mem_filter, hl]
    exact ⟨Finset.mem_univ _, hr.2, rfl⟩
  · intro j hj
    rw [Finset.mem_filter, hl] at hj
    exact ((eq_ix2 j).trans (congrArg (ix2 (j 0)) hj.2.2)).symm
  · intro r _; rfl
  · intro j hj
    rw [Finset.mem_filter, hl] at hj
    refine (congrArg upd ((eq_ix2 j).trans (congrArg (ix2 (j 0)) hj.2.2))).trans ((hu _ _).trans (congrArg (fun r => fe (128 * r + c.val)) (Nat.zero_add _).symm))

include hi in
/-- The scatter of ones, as extended reals: each segment's count. -/
theorem scatter_count (x : IVec S64 32) (hx : ∀ i, x i = 0#32) (upd : IVec S100000 32) (hu : ∀ i, upd i = 1#32) (g : Fin 64) :
    FloatOps.sitofp (F := Ideal) FTy.f32 (Host.scatter scatter_S64_S100000x1_S100000_n_0_0_1 IntOp.addi x idx upd (ix1 g)) = segCount id 0 100000 g := by
  have hl : ∀ n : Fin S100000.numel, (scatter_S64_S100000x1_S100000_n_0_0_1.resultIdx? (S100000.rowMajor.symm n) idx = some (ix1 g)) ↔ id n.val = g.val := fun n => by
    rw [show S100000.rowMajor.symm n = ix1 (n.cast (numel1 100000)) from (symm1 n).trans (ix1_eq_valueIdx _).symm, lands_count, hi]
    exact Int.ofNat_inj
  rw [scatter_at]
  simp only [hl, hu, hx]
  rw [foldl_ones (fun n : Fin S100000.numel => id n.val = g.val) _ 0, Nat.zero_add, sitofp_ofNat _ (lt_of_le_of_lt List.countP_le_length (by
    rw [List.length_finRange, numel1]; omega)), countP_cast, ← Fin.sum_univ_def, segCount, Finset.sum_Ico_eq_sum_range, Nat.sub_zero, Finset.sum_range]
  refine Fintype.sum_equiv (finCongr (numel1 100000)) _ _ fun n => ?_
  rw [Nat.zero_add]
  rfl

end Values

/-! ## The reference's result -/

section Result

variable (a0 : main_arg0.ty.Contents (Elt Ideal)) (a1 : main_arg1.ty.Contents (Elt Ideal))

/-- The segment numbers, none below zero. -/
def clampW : IVec S100000 32 := maxsi (broadcastInDim S100000 ![] bcast_S_S100000 (id (constantI S_ 32 0#32))) a1
/-- The same, a negative number counted from the end. -/
def wrapW : IVec S100000 32 := select (cmpi .slt (clampW a1) (broadcastInDim S100000 ![] bcast_S_S100000 (constantI S_ 32 0#32))) (addi (clampW a1) (broadcastInDim S100000 ![] bcast_S_S100000 (constantI S_ 32 64#32))) (clampW a1)
/-- The segments' sums. -/
def sumsA : FVec Ideal S64x128 .f32 := Host.scatterAdd scatter_S64x128_S100000x1_S100000x128_1_0_0_1 (broadcastInDim S64x128 ![] bcast_S_S64x128 (constant S_ .f32 0x00000000#32)) (broadcastInDim S100000x1 ![0] bcast_S100000_S100000x1_0 a1) (shapeCast _ a0 shapeCasts_S100000x128x1_S100000x128)
/-- The segments' counts. -/
def countsA : IVec S64 32 := Host.scatter scatter_S64_S100000x1_S100000_n_0_0_1 IntOp.addi (broadcastInDim S64 ![] bcast_S_S64 (constantI S_ 32 0#32)) (broadcastInDim S100000x1 ![0] bcast_S100000_S100000x1_0 (wrapW a1)) (broadcastInDim S100000 ![] bcast_S_S100000 (constantI S_ 32 1#32))
/-- The result. -/
def refA : FVec Ideal S64x128 .f32 := Host.divf (sumsA a0 a1) (broadcastInDim S64x128 ![0, 1] bcast_S64x1_S64x128_0_1 (broadcastInDim S64x1 ![0] bcast_S64_S64x1_0 (maximumf (sitofp .f32 (countsA a1)) (broadcastInDim S64 ![] bcast_S_S64 (constant S_ .f32 0x3F800000#32)))))

variable (fe : Nat → EReal) (id : Nat → Nat)
  (h0 : ∀ (r : Fin 100000) (c : Fin 128), a0 (ix3 r c 0) = fe (128 * r.val + c.val))
  (h1 : ∀ r : Fin 100000, BitVec.toNat (w := 32) (a1 (ix1 r)) = id r.val) (h2 : ∀ r : Fin 100000, BitVec.toNat (w := 32) (a1 (ix1 r)) < 64)

include h1 h2 in
/-- A row's id as an integer is its segment. -/
theorem word_int (r : Fin 100000) : BitVec.toInt (n := 32) (a1 (ix1 r)) = (id r.val : Int) := by
  rw [BitVec.toInt_eq_toNat_of_lt (by have := h2 r; omega), h1]

omit a1 in
/-- A word in range is the greater of it and zero. -/
theorem maxsi_zero (w : BitVec 32) (h : w.toNat < 64) : IntOp.maxsi 0#32 w = w := by
  have e : w.toInt = (w.toNat : Int) := BitVec.toInt_eq_toNat_of_lt (by omega)
  unfold IntOp.maxsi
  rw [if_neg]
  rw [BitVec.slt_iff_toInt_lt, BitVec.toInt_zero]
  omega

include h2 in
/-- A segment number in range is left as it is. -/
theorem wrapW_at (r : Fin 100000) : wrapW a1 (ix1 r) = a1 (ix1 r) := by
  have h := h2 r
  pointwise [wrapW, clampW]
  rw [show id (constantI S_ 32 0#32) ix0 = 0#32 from rfl, maxsi_zero _ h]
  exact wrap_of_lt _ _ (by omega)

include h0 h1 h2 in
/-- The reference's scattered sums are the segments' sums. -/
theorem sumsA_at (g : Fin 64) (c : Fin 128) : sumsA a0 a1 (ix2 g c) = segSum fe id 0 100000 g c := by
  refine scatter_sum id _ (fun r => ?_) fe _ (fun i => ?_) _ (fun r c => ?_) g c
  · pointwise
    exact word_int a1 id h1 h2 r
  · pointwise
    done
  · pointwise
    exact h0 r c

include h1 h2 in
/-- The reference's scattered counts, as floats, are the segments' counts. -/
theorem countsA_at (g : Fin 64) : FloatOps.sitofp (F := Ideal) FTy.f32 (countsA a1 (ix1 g)) = segCount id 0 100000 g := by
  refine scatter_count id _ (fun r => ?_) _ (fun i => ?_) _ (fun i => ?_) g
  · pointwise
    rw [wrapW_at a1 h2]
    exact word_int a1 id h1 h2 r
  · rfl
  · rfl

include h0 h1 h2 in
/-- What the reference leaves: each segment's sums over all rows, by its count or by one. -/
theorem refA_at (g : Fin 64) (c : Fin 128) :
    refA a0 a1 (ix2 g c) = Ideal.div (segSum fe id 0 100000 g c) (max (segCount id 0 100000 g) 1) := by
  rw [← sumsA_at a0 a1 fe id h0 h1 h2, ← countsA_at a1 id h1 h2]
  pointwise [refA]
  done

end Result

end Cert.Proof.Seg

end
-- ==== Proof.Value.lean ====
/-
  The value claim: at extended reals the program's result and the reference's are the same, each segment's sums over all
  rows divided by its count or by one.
-/
module

public import proofs.«01_k».proof.Proof.Sorted
public import proofs.«01_k».proof.Proof.BlockSums
public import proofs.«01_k».proof.Proof.RefSums

@[expose] public section

noncomputable section

namespace Cert.Proof.Seg

open Idealize.ShloMosaic Idealize.ShloMosaic.Pointwise Idealize.ShloMosaic.TcCoe Idealize.SL.Sem

section Kernel

open Cert.KernelIdeal Cert.KernelIdeal.Gen

variable (A0 : main_arg0.ty.Contents (Elt Ideal)) (A1 : main_arg1.ty.Contents (Elt Ideal))

/-- The segment of row `r`. -/
def seg (r : Nat) : Nat := (idA (F := Ideal) A1 r).toNat

/-- A row's id read as a number. -/
theorem seg_at (r : Fin 100000) : BitVec.toNat (w := 32) (A1 (ix1 r)) = seg A1 r.val := by
  unfold seg idA nat1
  refine congrArg (fun i => BitVec.toNat (w := 32) (A1 i)) (funext fun a => ?_)
  obtain rfl : a = 0 := Subsingleton.elim _ _
  exact Fin.ext (Nat.mod_eq_of_lt r.isLt).symm

/-- A feature by its place in the flat array. -/
theorem num_at (r : Fin 100000) (c : Fin 128) : A0 (ix3 r c 0) = feA A0 (128 * r.val + c.val) := by
  have e : feA A0 (128 * r.val + c.val) = x1 A0 (ix1 ⟨128 * r.val + c.val, by omega⟩) := by
    unfold feA nat1
    refine congrArg (x1 A0) (funext fun a => ?_)
    obtain rfl : a = 0 := Subsingleton.elim _ _
    exact Fin.ext (Nat.mod_eq_of_lt (by show 128 * r.val + c.val < 12800000; omega))
  rw [e]
  pointwise [x1]

/-- The features as a matrix. -/
theorem x0_at (r : Fin 100000) (c : Fin 128) : x0 A0 (ix2 r c) = feA A0 (128 * r.val + c.val) := by
  rw [← num_at]
  pointwise [x0]

/-- The ids in blocks of 2000. -/
theorem x2_at (b : Fin 50) (k : Fin 2000) : BitVec.toNat (w := 32) (x2 A1 (ix3 b 0 k)) = seg A1 (2000 * b.val + k.val) := by
  rw [← seg_at A1 ⟨2000 * b.val + k.val, by omega⟩]
  pointwise [x2]
  simp only [Nat.mul_comm]

/-- The tiles' sums by tile, segment and feature. -/
theorem x5_at (w : Fin 32) (g : Fin 64) (c : Fin 128) : x5 A0 A1 (ix3 w g c) = (tileSt (feA A0) (seg A1) w.val 12).1 (128 * g.val + c.val) := by
  pointwise [x5, r0, res0]
  show (tileSt (feA A0) (seg A1) ((w.val * 8192 + g.val * 128 + c.val) / 8192) 12).1 ((w.val * 8192 + g.val * 128 + c.val) % 8192) = _
  rw [show (w.val * 8192 + g.val * 128 + c.val) / 8192 = w.val by omega, show (w.val * 8192 + g.val * 128 + c.val) % 8192 = 128 * g.val + c.val by omega]

/-- The tiles' counts by tile and segment. -/
theorem x6_at (w : Fin 32) (g : Fin 64) : x6 A0 A1 (ix2 w g) = (tileSt (feA A0) (seg A1) w.val 12).2 g.val := by
  pointwise [x6, r1, res1]
  show (tileSt (feA A0) (seg A1) ((w.val * 64 + g.val) / 64) 12).2 ((w.val * 64 + g.val) % 64) = _
  rw [show (w.val * 64 + g.val) / 64 = w.val by omega, show (w.val * 64 + g.val) % 64 = g.val by omega]

/-- Of sorted ids, what the kernel leaves at segment `g` and feature `c` is that segment's sum by its count. -/
theorem outA_at (hs : ∀ i j, i ≤ j → j < 100000 → seg A1 i ≤ seg A1 j) (g : Fin 64) (c : Fin 128) :
    outA A0 A1 (ix2 g c) = Ideal.div (segSum (feA A0) (seg A1) 0 100000 g c) (max (segCount (seg A1) 0 100000 g) 1) := by
  have e5 : (∑ w : Fin 32, x5 A0 A1 (ix3 w g c) : EReal) = segSum (feA A0) (seg A1) 0 48000 g c := by
    rw [← segSum_blocks (feA A0) (seg A1) 1500 g c 32, Finset.sum_range]
    refine Finset.sum_congr rfl fun w _ => ?_
    rw [x5_at, tileSt_sum (feA A0) (seg A1) w (fun i j hij hj => hs i j hij (by omega)) g c c.isLt 12 le_rfl]
    rfl
  have e6 : (∑ w : Fin 32, x6 A0 A1 (ix2 w g) : EReal) = segCount (seg A1) 0 48000 g := by
    rw [← segCount_blocks (seg A1) 1500 g 32, Finset.sum_range]
    refine Finset.sum_congr rfl fun w _ => ?_
    rw [x6_at, tileSt_count (feA A0) (seg A1) w (fun i j hij hj => hs i j hij (by omega)) g 12 le_rfl]
    rfl
  pointwise [outA, k2_pay1]
  rw [e5, e6, fin2_at (x2 A1) (x0 A0) (feA A0) (seg A1) (x2_at A1) (x0_at A0) g c, fin3_at (x2 A1) (seg A1) (x2_at A1) g,
    segSum_join _ _ (by omega) (by omega), segCount_join _ (by omega) (by omega)]

end Kernel

/-- What the reference leaves is what the program leaves, from sorted segment numbers in range. -/
theorem refA_eq_outA (A0 : Cert.KernelIdeal.main_arg0.ty.Contents (Elt Ideal)) (A1 : Cert.KernelIdeal.main_arg1.ty.Contents (Elt Ideal))
    (hr : ∀ r : Fin 100000, BitVec.toNat (w := 32) (A1 (ix1 r)) < 64) (hs : ∀ i j, i ≤ j → j < 100000 → seg A1 i ≤ seg A1 j) :
    refA A0 A1 = outA A0 A1 := by
  funext j
  obtain ⟨g, c, rfl⟩ : ∃ (g : Fin 64) (c : Fin 128), j = ix2 g c := ⟨j 0, j 1, eq_ix2 j⟩
  exact (refA_at A0 A1 (feA A0) (seg A1) (num_at A0) (seg_at A1) hr g c).trans (outA_at A0 A1 hs g c).symm

/-- From the same arguments, the segment numbers sorted and in range, the program and the reference leave equal results. -/
theorem algebraic : Cert.algebraic_KernelIdeal_ReferenceIdeal_pre_ids_sorted_in_range := by
  intro m ρ m' ρ' hpre hagree
  have hid := fun d : Dev Cert.KernelIdeal.nD => ids_of_sorted _ _ (hpre d)
  refine ⟨fun c => outA (A0 m c) (A1 m c),
    (θ_run (Cert.KernelIdeal.defs (F := Ideal)) _ _).mono (fun _ h c => ⟨(h.1 c).2.2, (h.1 c).1, (h.1 c).2.1⟩)
      (run_main (F := Ideal) m ρ fun d i => (hid d).1 i),
    (θ_run Cert.ReferenceIdeal.defs _ _).mono (fun r h c => ⟨(h c).1.trans ?_, (h c).2⟩) (Cert.ReferenceIdeal.Value.run (F := Ideal) m' ρ')⟩
  rw [(hagree c).1, (hagree c).2]
  exact refA_eq_outA (A0 m c) (A1 m c) (fun r => (hid c).1 _) fun i j hij hj => mono_of_sorted _ (hid c).1 (hid c).2 i j hij hj

end Cert.Proof.Seg

end
-- ==== Proof.lean ====
/-
  The proof of `Cert.Claim`. The kernel's run, over any float values, is built up under proof/Proof/: the copies and the
  arithmetic of one SparseCore tile (Vals, Offsets, Steps, Flights, Slot0, Slot1, Block0, Block1, Tile), the handshakes of
  the SparseCore's launch (Setup, Tasks, Bodies), the two TensorCore calls (Region1, Region2) and the whole program
  (Launch). Frames and Sorted take the frames from that run. The value claim: what a tile (TileSums), the block kernel
  (BlockSums) and the reference (RefSums) sum over the extended reals, and the equation (Value).
-/
module

public import proofs.«01_k».proof.Defs
public import proofs.«01_k».proof.Proof.Gen.Kernel
public import proofs.«01_k».proof.Proof.Value

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_ids_in_range.Gen.facts,
    Cert.Pre_ids_sorted_in_range.Gen.facts, Seg.frame_kernel, Seg.frame_ideal, Seg.frame_ideal_sorted, Seg.frame_reference,
    Seg.frame_reference_sorted, trivial, Seg.algebraic⟩

end Cert.Proof

end
